-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1470 : Shape := ⟨2, ![16384, 1470]⟩
abbrev S16384x7x7x30 : Shape := ⟨4, ![16384, 7, 7, 30]⟩
abbrev S8 : Shape := ⟨1, ![8]⟩
abbrev S5 : Shape := ⟨1, ![5]⟩
abbrev S1470x8x64 : Shape := ⟨3, ![1470, 8, 64]⟩
abbrev S_ : Shape := ⟨0, ![]⟩
abbrev S1x8x1 : Shape := ⟨3, ![1, 8, 1]⟩
abbrev S1470x512 : Shape := ⟨2, ![1470, 512]⟩
abbrev S1470x5x64 : Shape := ⟨3, ![1470, 5, 64]⟩
abbrev S1x5x1 : Shape := ⟨3, ![1, 5, 1]⟩
abbrev S1470x320 : Shape := ⟨2, ![1470, 320]⟩
abbrev S1x1 : Shape := ⟨2, ![1, 1]⟩
abbrev S1024x1470 : Shape := ⟨2, ![1024, 1470]⟩
abbrev S1024x512 : Shape := ⟨2, ![1024, 512]⟩
abbrev S1024x320 : Shape := ⟨2, ![1024, 320]⟩
abbrev S1024x64 : Shape := ⟨2, ![1024, 64]⟩
abbrev S1x1024x320 : Shape := ⟨3, ![1, 1024, 320]⟩
abbrev S1 : Shape := ⟨1, ![1]⟩
abbrev S1x1x1 : Shape := ⟨3, ![1, 1, 1]⟩

abbrev nBuf : Space → Nat
  | .hbm => 34
  | .vmem => 7
  | .smem => 0
  | _ => 0

abbrev bufTy : (tb : Table) → Fin (tcTables nBuf tb) → BufTy
  | .hbm, ⟨0, _⟩ => ⟨S16384x1470, .f32⟩
  | .hbm, ⟨1, _⟩ => ⟨S16384x7x7x30, .f32⟩
  | .hbm, ⟨2, _⟩ => ⟨S8, .i32⟩
  | .hbm, ⟨3, _⟩ => ⟨S5, .i32⟩
  | .hbm, ⟨4, _⟩ => ⟨S5, .i32⟩
  | .hbm, ⟨5, _⟩ => ⟨S16384x1470, .f32⟩
  | .hbm, ⟨6, _⟩ => ⟨S16384x1470, .bf16⟩
  | .hbm, ⟨7, _⟩ => ⟨S1470x8x64, .i32⟩
  | .hbm, ⟨8, _⟩ => ⟨S1470x8x64, .i32⟩
  | .hbm, ⟨9, _⟩ => ⟨S_, .i32⟩
  | .hbm, ⟨10, _⟩ => ⟨S1470x8x64, .i32⟩
  | .hbm, ⟨11, _⟩ => ⟨S1470x8x64, .i32⟩
  | .hbm, ⟨12, _⟩ => ⟨S1470x8x64, .i32⟩
  | .hbm, ⟨13, _⟩ => ⟨S1x8x1, .i32⟩
  | .hbm, ⟨14, _⟩ => ⟨S1470x8x64, .i32⟩
  | .hbm, ⟨15, _⟩ => ⟨S1470x8x64, .i1⟩
  | .hbm, ⟨16, _⟩ => ⟨S1470x8x64, .bf16⟩
  | .hbm, ⟨17, _⟩ => ⟨S1470x512, .bf16⟩
  | .hbm, ⟨18, _⟩ => ⟨S1470x5x64, .i32⟩
  | .hbm, ⟨19, _⟩ => ⟨S1470x5x64, .i32⟩
  | .hbm, ⟨20, _⟩ => ⟨S_, .i32⟩
  | .hbm, ⟨21, _⟩ => ⟨S1470x5x64, .i32⟩
  | .hbm, ⟨22, _⟩ => ⟨S1470x5x64, .i32⟩
  | .hbm, ⟨23, _⟩ => ⟨S1470x5x64, .i32⟩
  | .hbm, ⟨24, _⟩ => ⟨S1x5x1, .i32⟩
  | .hbm, ⟨25, _⟩ => ⟨S1x5x1, .i32⟩
  | .hbm, ⟨26, _⟩ => ⟨S1470x5x64, .i32⟩
  | .hbm, ⟨27, _⟩ => ⟨S1470x5x64, .i1⟩
  | .hbm, ⟨28, _⟩ => ⟨S1470x5x64, .i32⟩
  | .hbm, ⟨29, _⟩ => ⟨S1470x5x64, .i1⟩
  | .hbm, ⟨30, _⟩ => ⟨S1470x5x64, .i1⟩
  | .hbm, ⟨31, _⟩ => ⟨S1470x5x64, .bf16⟩
  | .hbm, ⟨32, _⟩ => ⟨S1470x320, .bf16⟩
  | .hbm, ⟨33, _⟩ => ⟨S1x1, .f32⟩
  | .local _ .vmem, ⟨0, _⟩ => ⟨S1024x1470, .f32⟩
  | .local _ .vmem, ⟨1, _⟩ => ⟨S1024x1470, .f32⟩
  | .local _ .vmem, ⟨2, _⟩ => ⟨S1024x1470, .bf16⟩
  | .local _ .vmem, ⟨3, _⟩ => ⟨S1024x1470, .bf16⟩
  | .local _ .vmem, ⟨4, _⟩ => ⟨S1470x512, .bf16⟩
  | .local _ .vmem, ⟨5, _⟩ => ⟨S1470x320, .bf16⟩
  | .local _ .vmem, ⟨6, _⟩ => ⟨S1x1, .f32⟩
  | _, _ => ⟨S16384x1470, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1470 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1470 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1470x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1470x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x1470 : Shape := ⟨2, ![16384, 1470]⟩
abbrev S16384x7x7x30 : Shape := ⟨4, ![16384, 7, 7, 30]⟩
abbrev S2 : Shape := ⟨1, ![2]⟩
abbrev S16384x49x30 : Shape := ⟨3, ![16384, 49, 30]⟩
abbrev S16384x49x1 : Shape := ⟨3, ![16384, 49, 1]⟩
abbrev S16384x49 : Shape := ⟨2, ![16384, 49]⟩
abbrev S_ : Shape := ⟨0, ![]⟩
abbrev S802816 : Shape := ⟨1, ![802816]⟩
abbrev S802816x30 : Shape := ⟨2, ![802816, 30]⟩
abbrev S802816x20 : Shape := ⟨2, ![802816, 20]⟩
abbrev S2x1 : Shape := ⟨2, ![2, 1]⟩
abbrev S1 : Shape := ⟨1, ![1]⟩
abbrev S1x1 : Shape := ⟨2, ![1, 1]⟩
abbrev S802816x2 : Shape := ⟨2, ![802816, 2]⟩
abbrev S802816x10 : Shape := ⟨2, ![802816, 10]⟩
abbrev S802816x2x5 : Shape := ⟨3, ![802816, 2, 5]⟩
abbrev S802816x2x2 : Shape := ⟨3, ![802816, 2, 2]⟩
abbrev S802816x2x4 : Shape := ⟨3, ![802816, 2, 4]⟩
abbrev S802816x2x1x2 : Shape := ⟨4, ![802816, 2, 1, 2]⟩
abbrev S802816x1x2x2 : Shape := ⟨4, ![802816, 1, 2, 2]⟩
abbrev S802816x2x2x2 : Shape := ⟨4, ![802816, 2, 2, 2]⟩
abbrev S802816x2x2x1 : Shape := ⟨4, ![802816, 2, 2, 1]⟩
abbrev S802816x2x1 : Shape := ⟨3, ![802816, 2, 1]⟩
abbrev S802816x1x2 : Shape := ⟨3, ![802816, 1, 2]⟩
abbrev S1x1x2 : Shape := ⟨3, ![1, 1, 2]⟩
abbrev S802816x1 : Shape := ⟨2, ![802816, 1]⟩

abbrev nBuf : Space → Nat
  | .hbm => 211
  | .vmem => 0
  | .smem => 0
  | _ => 0

abbrev hbmTy0_0 (i : Nat) : BufTy := match i % 128 with
  | 0 => ⟨S16384x1470, .f32⟩
  | 1 => ⟨S16384x7x7x30, .f32⟩
  | 2 => ⟨S2, .i32⟩
  | 3 => ⟨S16384x49x30, .f32⟩
  | 4 => ⟨S16384x49x30, .f32⟩
  | 5 => ⟨S16384x49x1, .f32⟩
  | 6 => ⟨S16384x49, .f32⟩
  | 7 => ⟨S_, .f32⟩
  | 8 => ⟨S16384x49, .f32⟩
  | 9 => ⟨S16384x49, .i1⟩
  | 10 => ⟨S16384x49, .f32⟩
  | 11 => ⟨S802816, .f32⟩
  | 12 => ⟨S16384x49x1, .f32⟩
  | 13 => ⟨S16384x49, .f32⟩
  | 14 => ⟨S_, .f32⟩
  | 15 => ⟨S16384x49, .f32⟩
  | 16 => ⟨S16384x49, .i1⟩
  | 17 => ⟨S16384x49, .f32⟩
  | 18 => ⟨S802816, .f32⟩
  | 19 => ⟨S802816x30, .f32⟩
  | 20 => ⟨S802816x30, .f32⟩
  | 21 => ⟨S802816x20, .f32⟩
  | 22 => ⟨S802816x20, .f32⟩
  | 23 => ⟨S802816x20, .f32⟩
  | 24 => ⟨S802816x20, .f32⟩
  | 25 => ⟨S_, .f32⟩
  | 26 => ⟨S802816, .f32⟩
  | 27 => ⟨S802816, .f32⟩
  | 28 => ⟨S_, .f32⟩
  | 29 => ⟨S_, .f32⟩
  | 30 => ⟨S_, .i32⟩
  | 31 => ⟨S2, .i32⟩
  | 32 => ⟨S2, .i1⟩
  | 33 => ⟨S_, .i32⟩
  | 34 => ⟨S2, .i32⟩
  | 35 => ⟨S2, .i32⟩
  | 36 => ⟨S2, .i32⟩
  | 37 => ⟨S2x1, .i32⟩
  | 38 => ⟨S1, .i32⟩
  | 39 => ⟨S_, .i32⟩
  | 40 => ⟨S2x1, .i32⟩
  | 41 => ⟨S2x1, .i1⟩
  | 42 => ⟨S1x1, .i32⟩
  | 43 => ⟨S2x1, .i32⟩
  | 44 => ⟨S2x1, .i1⟩
  | 45 => ⟨S2x1, .i1⟩
  | 46 => ⟨S_, .i1⟩
  | 47 => ⟨S2, .i1⟩
  | 48 => ⟨S802816x2, .f32⟩
  | 49 => ⟨S802816x2, .i1⟩
  | 50 => ⟨S_, .f32⟩
  | 51 => ⟨S802816x2, .f32⟩
  | 52 => ⟨S802816x2, .f32⟩
  | 53 => ⟨S_, .i32⟩
  | 54 => ⟨S2, .i32⟩
  | 55 => ⟨S2, .i1⟩
  | 56 => ⟨S_, .i32⟩
  | 57 => ⟨S2, .i32⟩
  | 58 => ⟨S2, .i32⟩
  | 59 => ⟨S2, .i32⟩
  | 60 => ⟨S2x1, .i32⟩
  | 61 => ⟨S1, .i32⟩
  | 62 => ⟨S_, .i32⟩
  | 63 => ⟨S2x1, .i32⟩
  | 64 => ⟨S2x1, .i1⟩
  | 65 => ⟨S1x1, .i32⟩
  | 66 => ⟨S2x1, .i32⟩
  | 67 => ⟨S2x1, .i1⟩
  | 68 => ⟨S2x1, .i1⟩
  | 69 => ⟨S_, .i1⟩
  | 70 => ⟨S2, .i1⟩
  | 71 => ⟨S802816x2, .f32⟩
  | 72 => ⟨S802816x2, .i1⟩
  | 73 => ⟨S_, .f32⟩
  | 74 => ⟨S802816x2, .f32⟩
  | 75 => ⟨S802816x2, .f32⟩
  | 76 => ⟨S802816x2, .f32⟩
  | 77 => ⟨S802816x2, .f32⟩
  | 78 => ⟨S_, .f32⟩
  | 79 => ⟨S802816, .f32⟩
  | 80 => ⟨S802816, .f32⟩
  | 81 => ⟨S_, .f32⟩
  | 82 => ⟨S_, .f32⟩
  | 83 => ⟨S802816x10, .f32⟩
  | 84 => ⟨S802816x2x5, .f32⟩
  | 85 => ⟨S802816x10, .f32⟩
  | 86 => ⟨S802816x2x5, .f32⟩
  | 87 => ⟨S802816x2x2, .f32⟩
  | 88 => ⟨S802816x2x2, .f32⟩
  | 89 => ⟨S802816x2x2, .f32⟩
  | 90 => ⟨S802816x2x2, .f32⟩
  | 91 => ⟨S802816x2x2, .f32⟩
  | 92 => ⟨S802816x2x2, .f32⟩
  | 93 => ⟨S802816x2x2, .f32⟩
  | 94 => ⟨S802816x2x2, .f32⟩
  | 95 => ⟨S802816x2x2, .f32⟩
  | 96 => ⟨S802816x2x2, .f32⟩
  | 97 => ⟨S802816x2x2, .f32⟩
  | 98 => ⟨S802816x2x2, .f32⟩
  | 99 => ⟨S802816x2x2, .f32⟩
  | 100 => ⟨S802816x2x2, .f32⟩
  | 101 => ⟨S802816x2x2, .f32⟩
  | 102 => ⟨S802816x2x2, .f32⟩
  | 103 => ⟨S802816x2x4, .f32⟩
  | 104 => ⟨S802816x2x4, .f32⟩
  | 105 => ⟨S802816x2x2, .f32⟩
  | 106 => ⟨S802816x2x1x2, .f32⟩
  | 107 => ⟨S802816x2x2, .f32⟩
  | 108 => ⟨S802816x1x2x2, .f32⟩
  | 109 => ⟨S802816x2x2x2, .f32⟩
  | 110 => ⟨S802816x2x2x2, .f32⟩
  | 111 => ⟨S802816x2x2x2, .f32⟩
  | 112 => ⟨S802816x2x2, .f32⟩
  | 113 => ⟨S802816x2x1x2, .f32⟩
  | 114 => ⟨S802816x2x2, .f32⟩
  | 115 => ⟨S802816x1x2x2, .f32⟩
  | 116 => ⟨S802816x2x2x2, .f32⟩
  | 117 => ⟨S802816x2x2x2, .f32⟩
  | 118 => ⟨S802816x2x2x2, .f32⟩
  | 119 => ⟨S802816x2x2x2, .f32⟩
  | 120 => ⟨S_, .f32⟩
  | 121 => ⟨S_, .f32⟩
  | 122 => ⟨S802816x2x2x2, .f32⟩
  | 123 => ⟨S802816x2x2x2, .f32⟩
  | 124 => ⟨S802816x2x2x1, .f32⟩
  | 125 => ⟨S802816x2x2, .f32⟩
  | 126 => ⟨S802816x2x2x1, .f32⟩
  | 127 => ⟨S802816x2x2, .f32⟩
  | _ => ⟨S16384x1470, .f32⟩

abbrev hbmTy0_1 (i : Nat) : BufTy := match i % 128 with
  | 0 => ⟨S802816x2x2, .f32⟩
  | 1 => ⟨S802816x2x1, .f32⟩
  | 2 => ⟨S802816x2, .f32⟩
  | 3 => ⟨S802816x2x1, .f32⟩
  | 4 => ⟨S802816x2, .f32⟩
  | 5 => ⟨S802816x2, .f32⟩
  | 6 => ⟨S802816x2x1, .f32⟩
  | 7 => ⟨S802816x2, .f32⟩
  | 8 => ⟨S802816x2x1, .f32⟩
  | 9 => ⟨S802816x2, .f32⟩
  | 10 => ⟨S802816x2, .f32⟩
  | 11 => ⟨S802816x2, .f32⟩
  | 12 => ⟨S802816x2x1, .f32⟩
  | 13 => ⟨S802816x2x1, .f32⟩
  | 14 => ⟨S802816x2, .f32⟩
  | 15 => ⟨S802816x2x1, .f32⟩
  | 16 => ⟨S802816x2, .f32⟩
  | 17 => ⟨S802816x2, .f32⟩
  | 18 => ⟨S802816x2x1, .f32⟩
  | 19 => ⟨S802816x2, .f32⟩
  | 20 => ⟨S802816x2x1, .f32⟩
  | 21 => ⟨S802816x2, .f32⟩
  | 22 => ⟨S802816x2, .f32⟩
  | 23 => ⟨S802816x2, .f32⟩
  | 24 => ⟨S802816x1x2, .f32⟩
  | 25 => ⟨S802816x2x2, .f32⟩
  | 26 => ⟨S802816x2x2, .f32⟩
  | 27 => ⟨S802816x2x2, .f32⟩
  | 28 => ⟨S802816x2x2, .f32⟩
  | 29 => ⟨S802816x2x2, .f32⟩
  | 30 => ⟨S802816x2x2, .i32⟩
  | 31 => ⟨S_, .f32⟩
  | 32 => ⟨S_, .i32⟩
  | 33 => ⟨S802816x2, .f32⟩
  | 34 => ⟨S802816x2, .i32⟩
  | 35 => ⟨S802816x2x1, .i32⟩
  | 36 => ⟨S2, .i32⟩
  | 37 => ⟨S1x1x2, .i32⟩
  | 38 => ⟨S802816x2x2, .i32⟩
  | 39 => ⟨S802816x2x2, .i32⟩
  | 40 => ⟨S802816x2x2, .i1⟩
  | 41 => ⟨S_, .i1⟩
  | 42 => ⟨S802816x2, .i1⟩
  | 43 => ⟨S802816x2, .f32⟩
  | 44 => ⟨S802816x1, .f32⟩
  | 45 => ⟨S802816x2, .f32⟩
  | 46 => ⟨S802816x2, .f32⟩
  | 47 => ⟨S802816x2x1, .f32⟩
  | 48 => ⟨S802816x2, .f32⟩
  | 49 => ⟨S802816x2x1, .f32⟩
  | 50 => ⟨S802816x2, .f32⟩
  | 51 => ⟨S802816x2, .f32⟩
  | 52 => ⟨S802816x2, .f32⟩
  | 53 => ⟨S802816x2, .f32⟩
  | 54 => ⟨S_, .f32⟩
  | 55 => ⟨S_, .f32⟩
  | 56 => ⟨S802816x2x1, .f32⟩
  | 57 => ⟨S802816x2x2, .f32⟩
  | 58 => ⟨S802816x2x2, .f32⟩
  | 59 => ⟨S802816x2x2, .f32⟩
  | 60 => ⟨S802816x2x2, .f32⟩
  | 61 => ⟨S802816x2x2, .f32⟩
  | 62 => ⟨S802816x2x2, .f32⟩
  | 63 => ⟨S_, .f32⟩
  | 64 => ⟨S_, .f32⟩
  | 65 => ⟨S802816x2x1, .f32⟩
  | 66 => ⟨S802816x2x2, .f32⟩
  | 67 => ⟨S802816x2x2, .f32⟩
  | 68 => ⟨S802816x2x2, .f32⟩
  | 69 => ⟨S802816x2x2, .f32⟩
  | 70 => ⟨S802816x2x2, .f32⟩
  | 71 => ⟨S802816x2x2, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x1, .f32⟩
  | _ => ⟨S16384x1470, .f32⟩

abbrev hbmTy (i : Nat) : BufTy := match i / 128 with
  | 0 => hbmTy0_0 i
  | 1 => hbmTy0_1 i
  | _ => ⟨S16384x1470, .f32⟩

abbrev bufTy : (tb : Table) → Fin (tcTables nBuf tb) → BufTy
  | .hbm, ⟨i, _⟩ => hbmTy i
  | _, _ => ⟨S16384x1470, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v23 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_3 : Ref sig .tc := ⟨.hbm, 78, rfl⟩
abbrev main_v27 : Ref sig .tc := ⟨.hbm, 79, rfl⟩
abbrev main_v28 : Ref sig .tc := ⟨.hbm, 80, rfl⟩
abbrev main_cst_4 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_5 : Ref sig .tc := ⟨.hbm, 120, rfl⟩
abbrev main_call2_v0 : Ref sig .tc := ⟨.hbm, 121, rfl⟩
abbrev main_call2_v1 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call3_v0 : Ref sig .tc := ⟨.hbm, 158, rfl⟩
abbrev main_call3_cst : Ref sig .tc := ⟨.hbm, 159, rfl⟩
abbrev main_call3_c : Ref sig .tc := ⟨.hbm, 160, rfl⟩
abbrev main_call3_v1_0 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_6 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_7 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_8 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_9 : Ref sig .tc := ⟨.hbm, 200, rfl⟩
abbrev main_v137 : Ref sig .tc := ⟨.hbm, 201, rfl⟩
abbrev main_v138 : Ref sig .tc := ⟨.hbm, 202, rfl⟩
abbrev main_cst_10 : Ref sig .tc := ⟨.hbm, 203, rfl⟩
abbrev main_v139 : Ref sig .tc := ⟨.hbm, 204, rfl⟩
abbrev main_v140 : Ref sig .tc := ⟨.hbm, 205, rfl⟩
abbrev main_cst_11 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩

abbrev nD : Nat := 1
abbrev τ : Topo := Topo.v7x

variable {F : FTy → Type} [FloatOps F]
-- ==== Proof.CellMath.lean ====
module

public import Idealize.ShloMosaic.PureOps.Ideal

/-! One cell's share of the loss over the extended reals, and the loss as the sum of the shares.

    A cell has thirty elements: two boxes of five (centre, extents, confidence) and twenty class scores. Every
    term of the loss is a sum of squares with weights that are not negative, so the terms may be regrouped cell
    by cell whatever the elements are, infinite ones included. -/

@[expose] public section

noncomputable section

namespace Cert.Cell

open Idealize.ShloMosaic

/-- The square of a difference. -/
def sqd (a b : EReal) : EReal := (a - b) * (a - b)

/-- One for true, zero for false. -/
def bit (b : Bool) : EReal := if b then 1 else 0

/-- The weight of the coordinates' term. -/
def five : EReal := Ideal.ofBits .f32 0x40A00000#32

/-- The weight of the no-object term. -/
def half : EReal := Ideal.ofBits .f32 0x3F000000#32

/-- The area of the intersection of two boxes, each given by its centre and extents. -/
def inter (x y w h x' y' w' h' : EReal) : EReal :=
  max 0 (min (x + w * w) (x' + w' * w') - max (x - w * w) (x' - w' * w'))
    * max 0 (min (y + h * h) (y' + h' * h') - max (y - h * h) (y' - h' * h'))

/-- The intersection over the union of two boxes. -/
def iou (x y w h x' y' w' h' : EReal) : EReal :=
  Ideal.div (inter x y w h x' y' w' h')
    ((x + w * w - (x - w * w)) * (y + h * h - (y - h * h))
      + (x' + w' * w' - (x' - w' * w')) * (y' + h' * h' - (y' - h' * h')) - inter x y w h x' y' w' h')

/-- The place of element `k` of box `b` among the cell's elements. -/
def place (b : Fin 2) (k : Fin 5) : Fin 30 := ⟨b.val * 5 + k.val, by omega⟩

/-- The intersection over the union of predicted box `a` and target box `b`. -/
def iouAt (p t : Fin 30 → EReal) (a b : Fin 2) : EReal :=
  iou (p (place a 0)) (p (place a 1)) (p (place a 2)) (p (place a 3))
    (t (place b 0)) (t (place b 1)) (t (place b 2)) (t (place b 3))

/-- Whether target box `b` meets the second predicted box better than the first. -/
def second (p t : Fin 30 → EReal) (b : Fin 2) : Bool := decide (iouAt p t 0 b < iouAt p t 1 b)

/-- One for a cell that holds an object. -/
def obj (t : Fin 30 → EReal) : EReal := bit (decide (0 < t 5))

/-- One for a cell that holds no object. -/
def noObj (t : Fin 30 → EReal) : EReal := bit (decide (t 5 = 0))

/-- Whether some target box has chosen predicted box `b`. -/
def picked (p t : Fin 30 → EReal) (b : Fin 2) : Bool :=
  if b = 0 then !second p t 0 || !second p t 1 else second p t 0 || second p t 1

/-- The weight of predicted box `b`. -/
def weight (p t : Fin 30 → EReal) (b : Fin 2) : EReal := obj t * bit (picked p t b)

/-- A cell's share of the loss. -/
def share (p t : Fin 30 → EReal) : EReal :=
  five * weight p t 0 * (sqd (p 0) (t 0) + sqd (p 1) (t 1) + sqd (p 2) (t 2) + sqd (p 3) (t 3))
    + five * weight p t 1 * (sqd (p 5) (t 5) + sqd (p 6) (t 6) + sqd (p 7) (t 7) + sqd (p 8) (t 8))
    + (weight p t 0 + half * noObj t) * sqd (p 4) (t 4)
    + (weight p t 1 + half * noObj t) * sqd (p 9) (t 9)
    + obj t * ∑ k : Fin 20, sqd (p ⟨10 + k.val, by omega⟩) (t ⟨10 + k.val, by omega⟩)

/-- A square is not negative. -/
theorem mul_self_nonneg' (x : EReal) : 0 ≤ x * x := by
  rcases le_total 0 x with h | h
  · exact mul_nonneg h h
  · rw [← neg_mul_neg]; exact mul_nonneg (EReal.neg_nonneg.mpr h) (EReal.neg_nonneg.mpr h)

/-- The square of a difference is not negative. -/
theorem sqd_nonneg (a b : EReal) : 0 ≤ sqd a b := mul_self_nonneg' _

/-- A bit is not negative. -/
theorem bit_nonneg (b : Bool) : 0 ≤ bit b := by
  cases b <;> simp [bit]

/-- The coordinates' weight is not negative. -/
theorem five_nonneg : 0 ≤ five := by
  simp only [five, Ideal.ofBits, Ideal.ieee]
  simp [-EReal.coe_mul]

/-- The no-object weight is not negative. -/
theorem half_nonneg : 0 ≤ half := by
  simp only [half, Ideal.ofBits, Ideal.ieee]
  simp [-EReal.coe_mul]

/-- The extended real of a finite sum of extended nonnegative reals. -/
theorem coe_sum {ι : Type*} (s : Finset ι) (f : ι → ENNReal) :
    ((∑ i ∈ s, f i : ENNReal) : EReal) = ∑ i ∈ s, (f i : EReal) :=
  map_sum (⟨⟨fun x : ENNReal => (x : EReal), EReal.coe_ennreal_zero⟩, EReal.coe_ennreal_add⟩ : ENNReal →+ EReal) f s

/-- Terms over all cells regroup into shares of the cells: over the extended nonnegative reals. -/
theorem regroup {ι : Type*} [Fintype ι] (a h : ENNReal) (w : ι → Fin 2 → ENNReal) (o z : ι → ENNReal)
    (d : ι → Fin 30 → ENNReal) :
    a * ((∑ n, ∑ b, ∑ k : Fin 2, w n b * d n (place b ⟨k.val, by omega⟩))
          + ∑ n, ∑ b, ∑ k : Fin 2, w n b * d n (place b ⟨2 + k.val, by omega⟩))
        + (∑ n, ∑ b, w n b * d n (place b 4)) + h * (∑ n, z n * ∑ b, d n (place b 4))
        + ∑ n, o n * ∑ k : Fin 20, d n ⟨10 + k.val, by omega⟩
      = ∑ n, (a * w n 0 * (d n 0 + d n 1 + d n 2 + d n 3) + a * w n 1 * (d n 5 + d n 6 + d n 7 + d n 8)
          + (w n 0 + h * z n) * d n 4 + (w n 1 + h * z n) * d n 9 + o n * ∑ k : Fin 20, d n ⟨10 + k.val, by omega⟩) := by
  simp only [Finset.mul_sum _ _ h, ← Finset.sum_add_distrib]
  rw [Finset.mul_sum, ← Finset.sum_add_distrib, ← Finset.sum_add_distrib, ← Finset.sum_add_distrib]
  refine Finset.sum_congr rfl fun n _ => ?_
  simp only [Fin.sum_univ_two]
  show a * (w n 0 * d n 0 + w n 0 * d n 2 + (w n 0 * d n 1 + w n 0 * d n 3)
      + (w n 1 * d n 5 + w n 1 * d n 7 + (w n 1 * d n 6 + w n 1 * d n 8)))
    + (w n 0 * d n 4 + w n 1 * d n 9) + h * (z n * (d n 4 + d n 9)) + _ = _
  ring

/-- The terms of the loss over all cells are the sum of the cells' shares. -/
theorem loss_eq {ι : Type*} [Fintype ι] (p t : ι → Fin 30 → EReal) :
    five * ((∑ n, ∑ b, ∑ k : Fin 2, weight (p n) (t n) b
              * sqd (p n (place b ⟨k.val, by omega⟩)) (t n (place b ⟨k.val, by omega⟩)))
          + ∑ n, ∑ b, ∑ k : Fin 2, weight (p n) (t n) b
              * sqd (p n (place b ⟨2 + k.val, by omega⟩)) (t n (place b ⟨2 + k.val, by omega⟩)))
        + (∑ n, ∑ b, weight (p n) (t n) b * sqd (p n (place b 4)) (t n (place b 4)))
        + half * (∑ n, noObj (t n) * ∑ b, sqd (p n (place b 4)) (t n (place b 4)))
        + ∑ n, obj (t n) * ∑ k : Fin 20, sqd (p n ⟨10 + k.val, by omega⟩) (t n ⟨10 + k.val, by omega⟩)
      = ∑ n, share (p n) (t n) := by
  have hw (n : ι) (b : Fin 2) : ((weight (p n) (t n) b).toENNReal : EReal) = weight (p n) (t n) b :=
    EReal.coe_toENNReal (mul_nonneg (bit_nonneg _) (bit_nonneg _))
  have hz (n : ι) : ((noObj (t n)).toENNReal : EReal) = noObj (t n) := EReal.coe_toENNReal (bit_nonneg _)
  have ho (n : ι) : ((obj (t n)).toENNReal : EReal) = obj (t n) := EReal.coe_toENNReal (bit_nonneg _)
  have hd (n : ι) (e : Fin 30) : ((sqd (p n e) (t n e)).toENNReal : EReal) = sqd (p n e) (t n e) :=
    EReal.coe_toENNReal (sqd_nonneg _ _)
  have key := congrArg (fun x : ENNReal => (x : EReal)) (regroup five.toENNReal half.toENNReal
    (fun n b => (weight (p n) (t n) b).toENNReal) (fun n => (obj (t n)).toENNReal) (fun n => (noObj (t n)).toENNReal)
    (fun n e => (sqd (p n e) (t n e)).toENNReal))
  simp only [EReal.coe_ennreal_add, EReal.coe_ennreal_mul, coe_sum, hw, hz, ho, hd,
    EReal.coe_toENNReal five_nonneg, EReal.coe_toENNReal half_nonneg] at key
  exact key

end Cert.Cell

end
-- ==== Proof.Select.lean ====
module

public import proofs.«01_k».proof.Proof.CellMath
public import Idealize.ShloMosaic.Lib.Pointwise

/-! Sums over a row's 1470 elements against a column of zeros and ones: one element of a cell, or a run of its
    elements; and the cell's share of the loss as the sum of its five weighted runs. -/

@[expose] public section

noncomputable section

namespace Cert.Cell

open Idealize.ShloMosaic

/-- The box elements in the order of the groups. -/
def elem : Fin 8 → Nat := ![0, 1, 2, 3, 5, 6, 7, 8]

/-- The first element of each segment. -/
def lo : Fin 5 → Nat := ![0, 5, 4, 9, 10]

/-- The last element of each segment. -/
def hi : Fin 5 → Nat := ![3, 8, 4, 9, 29]

/-- Whether element `m` of a cell lies in segment `j`. -/
def inSeg (j : Fin 5) (m : Nat) : Bool := decide (lo j ≤ m) && decide (m ≤ hi j)

/-- A column with a single one reads one element. -/
theorem sum_one (f : Fin 1470 → EReal) (k : Nat) (hk : k < 1470) :
    ∑ e : Fin 1470, f e * bit (decide (e.val = k)) = f ⟨k, hk⟩ := by
  rw [Finset.sum_eq_single ⟨k, hk⟩]
  · simp [bit]
  · intro e _ he
    have : e.val ≠ k := fun h => he (Fin.ext h)
    simp [bit, this]
  · intro h; exact absurd (Finset.mem_univ _) h

/-- A column with ones at a run of a cell's elements sums that run. -/
theorem sum_run (f : Fin 1470 → EReal) (c : Fin 49) (j : Fin 5) :
    ∑ e : Fin 1470, f e * bit (decide (30 * c.val + lo j ≤ e.val) && decide (e.val ≤ 30 * c.val + hi j))
      = ∑ m : Fin 30, f ⟨c.val * 30 + m.val, by omega⟩ * bit (inSeg j m.val) := by
  have hj : hi j < 30 := by revert j; decide
  rw [Fin.sum_univ_tiles 49 30 rfl, Finset.sum_eq_single c]
  · refine Finset.sum_congr rfl fun m _ => ?_
    congr 2
    simp only [inSeg]
    congr 1 <;> exact decide_eq_decide.mpr ⟨fun _ => by omega, fun _ => by omega⟩
  · intro b _ hb
    refine Finset.sum_eq_zero fun m _ => ?_
    have hm := m.isLt
    have : b.val ≠ c.val := fun h => hb (Fin.ext h)
    have hz : (decide (30 * c.val + lo j ≤ b.val * 30 + m.val) && decide (b.val * 30 + m.val ≤ 30 * c.val + hi j)) = false := by
      rw [Bool.and_eq_false_iff, decide_eq_false_iff_not, decide_eq_false_iff_not]
      omega
    simp only [hz, bit, Bool.false_eq_true, if_false, mul_zero]
  · intro h; exact absurd (Finset.mem_univ _) h

/-- Past the last cell the run holds no element. -/
theorem sum_none (f : Fin 1470 → EReal) (q : Nat) (hq : 49 ≤ q) (j : Fin 5) :
    ∑ e : Fin 1470, f e * bit (decide (30 * q + lo j ≤ e.val) && decide (e.val ≤ 30 * q + hi j)) = 0 := by
  refine Finset.sum_eq_zero fun e _ => ?_
  have he := e.isLt
  have hz : decide (30 * q + lo j ≤ e.val) = false := by rw [decide_eq_false_iff_not]; omega
  simp only [hz, Bool.false_and, bit, Bool.false_eq_true, if_false, mul_zero]

/-- The weights of a column's five segments. -/
def segWeight (x y z s : EReal) : Fin 5 → EReal := ![five * z, five * (x * s), z + half * y, x * s + half * y, x]

/-- A sum over thirty elements: the first ten and the last twenty. -/
theorem sum_thirty (f : Fin 30 → EReal) : ∑ m, f m
    = (f 0 + (f 1 + (f 2 + (f 3 + (f 4 + (f 5 + (f 6 + (f 7 + (f 8 + f 9))))))))) + ∑ k : Fin 20, f ⟨10 + k.val, by omega⟩ := by
  rw [show (∑ m, f m) = ∑ m : Fin (10 + 20), f m from rfl, Fin.sum_univ_add]
  have ten (g : Fin 10 → EReal) : ∑ i, g i = g 0 + (g 1 + (g 2 + (g 3 + (g 4 + (g 5 + (g 6 + (g 7 + (g 8 + g 9)))))))) := by
    rw [Fin.sum_univ_castSucc, Fin.sum_univ_castSucc, Fin.sum_univ_eight]
    simp only [add_assoc]
    rfl
  rw [ten]
  congr 1

/-- A cell's share of the loss is the sum of its five weighted segments. -/
theorem share_eq (p t : Fin 30 → EReal) :
    ∑ j : Fin 5, segWeight (obj t) (noObj t) (weight p t 0) (bit (picked p t 1)) j * ∑ m : Fin 30, sqd (p m) (t m) * bit (inSeg j m.val)
      = share p t := by
  have h0 (j : Fin 5) (hj : j ≠ 4) : ∑ k : Fin 20, sqd (p ⟨10 + k.val, by omega⟩) (t ⟨10 + k.val, by omega⟩) * bit (inSeg j (10 + k.val)) = 0 := by
    refine Finset.sum_eq_zero fun k _ => ?_
    have : inSeg j (10 + k.val) = false := by revert j k; decide
    simp [this, bit]
  have h4 : ∑ k : Fin 20, sqd (p ⟨10 + k.val, by omega⟩) (t ⟨10 + k.val, by omega⟩) * bit (inSeg 4 (10 + k.val))
      = ∑ k : Fin 20, sqd (p ⟨10 + k.val, by omega⟩) (t ⟨10 + k.val, by omega⟩) := by
    refine Finset.sum_congr rfl fun k _ => ?_
    have : inSeg 4 (10 + k.val) = true := by revert k; decide
    simp [this, bit]
  have s0 : ∑ m : Fin 30, sqd (p m) (t m) * bit (inSeg 0 m.val) = sqd (p 0) (t 0) + sqd (p 1) (t 1) + sqd (p 2) (t 2) + sqd (p 3) (t 3) := by
    rw [sum_thirty, h0 0 (by decide)]
    simp [bit, inSeg, lo, hi, add_assoc]
  have s1 : ∑ m : Fin 30, sqd (p m) (t m) * bit (inSeg 1 m.val) = sqd (p 5) (t 5) + sqd (p 6) (t 6) + sqd (p 7) (t 7) + sqd (p 8) (t 8) := by
    rw [sum_thirty, h0 1 (by decide)]
    simp [bit, inSeg, lo, hi, add_assoc]
  have s2 : ∑ m : Fin 30, sqd (p m) (t m) * bit (inSeg 2 m.val) = sqd (p 4) (t 4) := by
    rw [sum_thirty, h0 2 (by decide)]
    simp [bit, inSeg, lo, hi]
  have s3 : ∑ m : Fin 30, sqd (p m) (t m) * bit (inSeg 3 m.val) = sqd (p 9) (t 9) := by
    rw [sum_thirty, h0 3 (by decide)]
    simp [bit, inSeg, lo, hi]
  have s4 : ∑ m : Fin 30, sqd (p m) (t m) * bit (inSeg 4 m.val) = ∑ k : Fin 20, sqd (p ⟨10 + k.val, by omega⟩) (t ⟨10 + k.val, by omega⟩) := by
    rw [sum_thirty, h4]
    simp [bit, inSeg, lo, hi]
  rw [Fin.sum_univ_five, s0, s1, s2, s3, s4]
  rfl

end Cert.Cell

end
-- ==== Proof.KernelBlock.lean ====
module

public import proofs.«01_k».proof.Proof.Gen.KernelIdeal.Value
public import proofs.«01_k».proof.Proof.Select
public import Idealize.ShloMosaic.Lib.Pointwise

/-! One block of the kernel over the extended reals: what the block adds to the running total is the sum, over
    its rows and columns, of the columns' shares of the loss. -/

@[expose] public section

set_option maxRecDepth 16384

noncomputable section

namespace Cert.KernelIdeal.Block

open Cert.KernelIdeal Cert.KernelIdeal.Gen Cert.Cell Idealize.ShloMosaic Idealize.ShloMosaic.TcCoe Idealize.SL.Sem Idealize.ShloMosaic.StableHlo

/-- The eight groups of columns of row `r`, read at column `q`, are the eight box elements of a cell. -/
structure Reads (a : FVec Ideal S1024x512 .f32) (r : Fin 1024) (q : Fin 64) (p : Fin 30 → EReal) : Prop where
  x0 : a (ix2 r ⟨q.val, by omega⟩) = p 0
  y0 : a (ix2 r ⟨64 + q.val, by omega⟩) = p 1
  w0 : a (ix2 r ⟨128 + q.val, by omega⟩) = p 2
  h0 : a (ix2 r ⟨192 + q.val, by omega⟩) = p 3
  x1 : a (ix2 r ⟨256 + q.val, by omega⟩) = p 5
  y1 : a (ix2 r ⟨320 + q.val, by omega⟩) = p 6
  w1 : a (ix2 r ⟨384 + q.val, by omega⟩) = p 7
  h1 : a (ix2 r ⟨448 + q.val, by omega⟩) = p 8

section
variable (x0 : FVec Ideal S1024x1470 .f32) (x1 : FVec Ideal S1024x1470 .bf16) (x2 : FVec Ideal S1470x512 .bf16)

/-- Whether the first target box meets the second predicted box better. -/
def firstBit : IVec S1024x64 1 :=
  k0_pay46 (F := Ideal) (k0_pay20 x0 x2) (k0_pay21 x0 x2) (k0_pay22 x0 x2) (k0_pay23 x0 x2) (k0_pay28 x1 x2) (k0_pay29 x1 x2) (k0_pay30 x1 x2) (k0_pay31 x1 x2)
    (k0_pay40 (k0_pay12 x0 x2) (k0_pay13 x0 x2) (k0_pay14 x0 x2) (k0_pay15 x0 x2) (k0_pay28 x1 x2) (k0_pay29 x1 x2) (k0_pay30 x1 x2) (k0_pay31 x1 x2))
    (k0_pay42 (k0_pay21 x0 x2) (k0_pay29 x1 x2)) (k0_pay43 (k0_pay23 x0 x2) (k0_pay31 x1 x2))
    (k0_pay44 (k0_pay20 x0 x2) (k0_pay22 x0 x2) (k0_pay28 x1 x2) (k0_pay30 x1 x2)) (k0_pay45 (F := Ideal))

/-- Whether the second target box meets the second predicted box better. -/
def secondBit : IVec S1024x64 1 :=
  k0_pay47 (F := Ideal) (k0_pay20 x0 x2) (k0_pay21 x0 x2) (k0_pay22 x0 x2) (k0_pay23 x0 x2)
    (k0_pay36 (k0_pay6 x1 x2) (k0_pay32 x1 x2)) (k0_pay37 (k0_pay6 x1 x2)) (k0_pay38 (k0_pay6 x1 x2) (k0_pay32 x1 x2)) (k0_pay39 (k0_pay6 x1 x2))
    (k0_pay41 (k0_pay6 x1 x2) (k0_pay12 x0 x2) (k0_pay13 x0 x2) (k0_pay14 x0 x2) (k0_pay15 x0 x2) (k0_pay32 x1 x2))

variable {x0 x1 x2} {r : Fin 1024} {q : Fin 64} {p t : Fin 30 → EReal}

/-- The first bit is the cell's choice for the first target box. -/
theorem firstBit_apply (hp : Reads (k0_pay5 (F := Ideal) x0 x2) r q p) (ht : Reads (k0_pay6 (F := Ideal) x1 x2) r q t) :
    firstBit x0 x1 x2 (ix2 r q) = BitVec.ofBool (second p t 0) := by
  unfold firstBit
  pointwise [k0_pay46, k0_pay40, k0_pay42, k0_pay43, k0_pay44, k0_pay45, k0_pay12, k0_pay13, k0_pay14, k0_pay15, k0_pay20, k0_pay21, k0_pay22, k0_pay23,
    k0_pay28, k0_pay29, k0_pay30, k0_pay31, k0_pay8, k0_pay9, k0_pay10, k0_pay11, k0_pay16, k0_pay17, k0_pay18, k0_pay19, k0_pay24, k0_pay25, k0_pay26, k0_pay27]
  simp only [hp.x0, hp.y0, hp.w0, hp.h0, hp.x1, hp.y1, hp.w1, hp.h1, ht.x0, ht.y0, ht.w0, ht.h0, ht.x1, ht.y1, ht.w1, ht.h1]
  unfold second iouAt iou inter
  simp only [max_comm (0 : EReal)]
  rfl

/-- The second bit is the cell's choice for the second target box. -/
theorem secondBit_apply (hp : Reads (k0_pay5 (F := Ideal) x0 x2) r q p) (ht : Reads (k0_pay6 (F := Ideal) x1 x2) r q t) :
    secondBit x0 x1 x2 (ix2 r q) = BitVec.ofBool (second p t 1) := by
  unfold secondBit
  pointwise [k0_pay47, k0_pay41, k0_pay36, k0_pay37, k0_pay38, k0_pay39, k0_pay32, k0_pay33, k0_pay34, k0_pay35, k0_pay12, k0_pay13, k0_pay14, k0_pay15, k0_pay20, k0_pay21, k0_pay22, k0_pay23,
    k0_pay8, k0_pay9, k0_pay10, k0_pay11, k0_pay16, k0_pay17, k0_pay18, k0_pay19]
  simp only [hp.x0, hp.y0, hp.w0, hp.h0, hp.x1, hp.y1, hp.w1, hp.h1, ht.x0, ht.y0, ht.w0, ht.h0, ht.x1, ht.y1, ht.w1, ht.h1]
  unfold second iouAt iou inter
  simp only [max_comm (0 : EReal)]
  rfl

end

/-- A bit, widened, read as a number. -/
theorem sitofp_bit (b : Bool) : FloatOps.sitofp (F := Ideal) .f32 (BitVec.setWidth 32 (BitVec.ofBool b)) = bit b := by
  show ((((BitVec.setWidth 32 (BitVec.ofBool b)).toInt : ℤ) : ℝ) : EReal) = bit b
  cases b <;> simp [bit]

section
variable {v : FVec Ideal S1024x512 .f32} {r : Fin 1024} {q : Fin 64} {t : Fin 30 → EReal}

/-- The object mask of a cell. -/
theorem objMask_apply (ht : Reads v r q t) : k0_pay49 (F := Ideal) v (ix2 r q) = obj t := by
  pointwise [k0_pay49, k0_pay48]
  rw [ht.x1, sitofp_bit]
  rfl

/-- The no-object mask of a cell. -/
theorem noObjMask_apply (ht : Reads v r q t) : k0_pay50 (F := Ideal) v (ix2 r q) = noObj t := by
  pointwise [k0_pay50, k0_pay48]
  rw [ht.x1, sitofp_bit]
  rfl

end

/-- Five pieces of sixty-four columns side by side. -/
def pick (z0 z1 z2 z3 z4 : Fin 64 → EReal) (c : Fin 320) : EReal :=
  if h : c.val < 64 then z0 ⟨c.val, h⟩
  else if h : c.val - 64 < 64 then z1 ⟨c.val - 64, h⟩
  else if h : c.val - 64 - 64 < 64 then z2 ⟨c.val - 64 - 64, h⟩
  else if h : c.val - 64 - 64 - 64 < 64 then z3 ⟨c.val - 64 - 64 - 64, h⟩
  else z4 ⟨c.val - 64 - 64 - 64 - 64, by omega⟩

/-- The pieces, read at column `q` of piece `j`. -/
theorem pick_at (z : Fin 5 → Fin 64 → EReal) (j : Fin 5) (q : Fin 64) :
    pick (z 0) (z 1) (z 2) (z 3) (z 4) ⟨j.val * 64 + q.val, by omega⟩ = z j q := by
  have hq := q.isLt
  have fin (a b : Fin 64) (h : a.val = b.val) (k : Fin 5) : z k a = z k b := by rw [Fin.ext h]
  unfold pick
  rcases j with ⟨j, hj⟩
  dsimp only
  interval_cases j
  · rw [dif_pos (by omega)]
    exact fin _ _ (by dsimp only; omega) 0
  · rw [dif_neg (by omega), dif_pos (by omega)]
    exact fin _ _ (by dsimp only; omega) 1
  · rw [dif_neg (by omega), dif_neg (by omega), dif_pos (by omega)]
    exact fin _ _ (by dsimp only; omega) 2
  · rw [dif_neg (by omega), dif_neg (by omega), dif_neg (by omega), dif_pos (by omega)]
    exact fin _ _ (by dsimp only; omega) 3
  · rw [dif_neg (by omega), dif_neg (by omega), dif_neg (by omega), dif_neg (by omega)]
    exact fin _ _ (by dsimp only; omega) 4

/-- A sum over the five pieces, column by column. -/
theorem sum_pick (z : Fin 5 → Fin 64 → EReal) (d : Fin 320 → EReal) :
    ∑ c, pick (z 0) (z 1) (z 2) (z 3) (z 4) c * d c
      = ∑ q : Fin 64, ∑ j : Fin 5, z j q * d ⟨j.val * 64 + q.val, by omega⟩ := by
  rw [Fin.sum_univ_tiles 5 64 rfl, Finset.sum_comm]
  exact Finset.sum_congr rfl fun q _ => Finset.sum_congr rfl fun j _ => by rw [pick_at]

/-- The block's total: the running total and, over rows and columns, the five weighted segments. -/
theorem total_apply (d : FVec Ideal S1024x320 .f32) (x y z : FVec Ideal S1024x64 .f32) (v : IVec S1024x64 32) (a : FVec Ideal S1x1 .f32) :
    k0_pay2 (F := Ideal) d x y z v a (ix2 0 0) = a (ix2 0 0) + ∑ r : Fin 1024, ∑ q : Fin 64, ∑ j : Fin 5,
      segWeight (x (ix2 r q)) (y (ix2 r q)) (z (ix2 r q)) (FloatOps.sitofp (F := Ideal) .f32 (v (ix2 r q))) j
        * d (ix2 r ⟨j.val * 64 + q.val, by omega⟩) := by
  pointwise [k0_pay2]
  congr 1
  refine Finset.sum_congr rfl fun r _ => ?_
  exact sum_pick (fun j q => segWeight (x (ix2 r q)) (y (ix2 r q)) (z (ix2 r q)) (FloatOps.sitofp (F := Ideal) .f32 (v (ix2 r q))) j) fun c => d (ix2 r c)

/-- A row's products with a matrix: the box elements, for the prediction. -/
theorem boxP_apply (x : FVec Ideal S1024x1470 .f32) (w : FVec Ideal S1470x512 .bf16) (r : Fin 1024) (q : Fin 512) :
    k0_pay5 (F := Ideal) x w (ix2 r q) = ∑ e : Fin 1470, x (ix2 r e) * w (ix2 e q) := by
  pointwise [k0_pay5, k0_pay4]

/-- A row's products with a matrix: the box elements, for the target. -/
theorem boxT_apply (x : FVec Ideal S1024x1470 .bf16) (w : FVec Ideal S1470x512 .bf16) (r : Fin 1024) (q : Fin 512) :
    k0_pay6 (F := Ideal) x w (ix2 r q) = ∑ e : Fin 1470, x (ix2 r e) * w (ix2 e q) := by
  pointwise [k0_pay6, k0_pay3]

/-- A row's squared differences, multiplied with a matrix. -/
theorem segs_apply (x : FVec Ideal S1024x1470 .f32) (y : FVec Ideal S1024x1470 .bf16) (w : FVec Ideal S1470x320 .bf16) (r : Fin 1024) (q : Fin 320) :
    k0_pay7 (F := Ideal) x y w (ix2 r q) = ∑ e : Fin 1470, sqd (x (ix2 r e)) (y (ix2 r e)) * w (ix2 e q) := by
  pointwise [k0_pay7, k0_pay3, k0_pay4, sqd]

/-- The block's step: the running total `a` and the block's additions. -/
def step (x0 : FVec Ideal S1024x1470 .f32) (x1 : FVec Ideal S1024x1470 .bf16) (x2 : FVec Ideal S1470x512 .bf16) (x3 : FVec Ideal S1470x320 .bf16)
    (a : FVec Ideal S1x1 .f32) : FVec Ideal S1x1 .f32 :=
  k0_pay2 (F := Ideal) (k0_pay7 x0 x1 x3) (k0_pay49 (k0_pay6 x1 x2)) (k0_pay50 (k0_pay6 x1 x2))
    (mulf (k0_pay49 (k0_pay6 x1 x2)) (sitofp .f32 (extui 32 (ori (xori (firstBit x0 x1 x2) (constantI S1024x64 1 1#1)) (xori (secondBit x0 x1 x2) (constantI S1024x64 1 1#1))))))
    (extui 32 (ori (firstBit x0 x1 x2) (secondBit x0 x1 x2))) a

/-- The columns of zeros and ones that read the box elements. -/
def IsBox (x2 : FVec Ideal S1470x512 .bf16) : Prop :=
  ∀ (e : Fin 1470) (g : Fin 8) (q : Fin 64), x2 (ix2 e ⟨g.val * 64 + q.val, by omega⟩) = bit (decide (e.val = 30 * q.val + elem g))

/-- The columns of zeros and ones that sum the segments. -/
def IsSeg (x3 : FVec Ideal S1470x320 .bf16) : Prop :=
  ∀ (e : Fin 1470) (j : Fin 5) (q : Fin 64), x3 (ix2 e ⟨j.val * 64 + q.val, by omega⟩)
    = bit (decide (30 * q.val + lo j ≤ e.val) && decide (e.val ≤ 30 * q.val + hi j))

/-- The elements of cell `c` of row `r`. -/
def cellAt {φ : FTy} (x : FVec Ideal S1024x1470 φ) (r : Fin 1024) (c : Fin 49) (e : Fin 30) : EReal :=
  x (ix2 r ⟨c.val * 30 + e.val, by omega⟩)

section
variable {x0 : FVec Ideal S1024x1470 .f32} {x1 : FVec Ideal S1024x1470 .bf16} {x2 : FVec Ideal S1470x512 .bf16} {x3 : FVec Ideal S1470x320 .bf16}

/-- Group `g` of a product with the box columns is the box element of each cell. -/
theorem group_eq {φ : FTy} (h2 : IsBox x2) (x : FVec Ideal S1024x1470 φ) (r : Fin 1024) (c : Fin 49) (g : Fin 8) (k : Fin 512)
    (hk : k.val = g.val * 64 + c.val) (e : Fin 30) (he : e.val = elem g) :
    ∑ i : Fin 1470, x (ix2 r i) * x2 (ix2 i k) = cellAt x r c e := by
  have hq : k = ⟨g.val * 64 + (⟨c.val, by omega⟩ : Fin 64).val, by omega⟩ := Fin.ext hk
  rw [hq, Finset.sum_congr rfl fun i _ => by rw [h2 i g ⟨c.val, by omega⟩], sum_one (fun i => x (ix2 r i)) _ (by dsimp only; omega)]
  unfold cellAt
  congr 3
  dsimp only
  omega

/-- The prediction's groups read the cell. -/
theorem reads_P (h2 : IsBox x2) (r : Fin 1024) (c : Fin 49) :
    Reads (k0_pay5 (F := Ideal) x0 x2) r ⟨c.val, by omega⟩ (cellAt x0 r c) where
  x0 := (boxP_apply ..).trans (group_eq h2 x0 r c 0 _ (by simp) 0 rfl)
  y0 := (boxP_apply ..).trans (group_eq h2 x0 r c 1 _ (by simp) 1 rfl)
  w0 := (boxP_apply ..).trans (group_eq h2 x0 r c 2 _ (by simp) 2 rfl)
  h0 := (boxP_apply ..).trans (group_eq h2 x0 r c 3 _ (by simp) 3 rfl)
  x1 := (boxP_apply ..).trans (group_eq h2 x0 r c 4 _ (by simp) 5 rfl)
  y1 := (boxP_apply ..).trans (group_eq h2 x0 r c 5 _ (by simp) 6 rfl)
  w1 := (boxP_apply ..).trans (group_eq h2 x0 r c 6 _ (by simp) 7 rfl)
  h1 := (boxP_apply ..).trans (group_eq h2 x0 r c 7 _ (by simp) 8 rfl)

/-- The target's groups read the cell. -/
theorem reads_T (h2 : IsBox x2) (r : Fin 1024) (c : Fin 49) :
    Reads (k0_pay6 (F := Ideal) x1 x2) r ⟨c.val, by omega⟩ (cellAt x1 r c) where
  x0 := (boxT_apply ..).trans (group_eq h2 x1 r c 0 _ (by simp) 0 rfl)
  y0 := (boxT_apply ..).trans (group_eq h2 x1 r c 1 _ (by simp) 1 rfl)
  w0 := (boxT_apply ..).trans (group_eq h2 x1 r c 2 _ (by simp) 2 rfl)
  h0 := (boxT_apply ..).trans (group_eq h2 x1 r c 3 _ (by simp) 3 rfl)
  x1 := (boxT_apply ..).trans (group_eq h2 x1 r c 4 _ (by simp) 5 rfl)
  y1 := (boxT_apply ..).trans (group_eq h2 x1 r c 5 _ (by simp) 6 rfl)
  w1 := (boxT_apply ..).trans (group_eq h2 x1 r c 6 _ (by simp) 7 rfl)
  h1 := (boxT_apply ..).trans (group_eq h2 x1 r c 7 _ (by simp) 8 rfl)

/-- The first predicted box's weight. -/
theorem weight_first (h2 : IsBox x2) (r : Fin 1024) (c : Fin 49) :
    mulf (k0_pay49 (F := Ideal) (k0_pay6 x1 x2)) (sitofp .f32 (extui 32 (ori (xori (firstBit x0 x1 x2) (constantI S1024x64 1 1#1))
      (xori (secondBit x0 x1 x2) (constantI S1024x64 1 1#1))))) (ix2 r ⟨c.val, by omega⟩) = weight (cellAt x0 r c) (cellAt x1 r c) 0 := by
  pointwise
  rw [objMask_apply (reads_T h2 r c), firstBit_apply (reads_P h2 r c) (reads_T h2 r c), secondBit_apply (reads_P h2 r c) (reads_T h2 r c)]
  have ho (u v : Bool) : IntOp.ori (IntOp.xori (BitVec.ofBool u) 1#1) (IntOp.xori (BitVec.ofBool v) 1#1) = BitVec.ofBool (!u || !v) := by
    revert u v; decide
  rw [ho, sitofp_bit]
  rfl

/-- The second predicted box's choice. -/
theorem picked_second (h2 : IsBox x2) (r : Fin 1024) (c : Fin 49) :
    FloatOps.sitofp (F := Ideal) .f32 (extui 32 (ori (firstBit x0 x1 x2) (secondBit x0 x1 x2)) (by decide) (ix2 r ⟨c.val, by omega⟩))
      = bit (picked (cellAt x0 r c) (cellAt x1 r c) 1) := by
  pointwise
  rw [firstBit_apply (reads_P h2 r c) (reads_T h2 r c), secondBit_apply (reads_P h2 r c) (reads_T h2 r c)]
  have ho (u v : Bool) : IntOp.ori (BitVec.ofBool u) (BitVec.ofBool v) = BitVec.ofBool (u || v) := by
    revert u v; decide
  rw [ho, sitofp_bit]
  rfl

/-- A block adds its cells' shares of the loss to the running total. -/
theorem step_apply (h2 : IsBox x2) (h3 : IsSeg x3) (a : FVec Ideal S1x1 .f32) :
    step x0 x1 x2 x3 a (ix2 0 0) = a (ix2 0 0) + ∑ r : Fin 1024, ∑ c : Fin 49, share (cellAt x0 r c) (cellAt x1 r c) := by
  unfold step
  rw [total_apply]
  congr 1
  refine Finset.sum_congr rfl fun r _ => ?_
  have hseg (j : Fin 5) (q : Fin 64) : k0_pay7 (F := Ideal) x0 x1 x3 (ix2 r ⟨j.val * 64 + q.val, by omega⟩)
      = ∑ e : Fin 1470, sqd (x0 (ix2 r e)) (x1 (ix2 r e)) * bit (decide (30 * q.val + lo j ≤ e.val) && decide (e.val ≤ 30 * q.val + hi j)) := by
    rw [segs_apply]
    exact Finset.sum_congr rfl fun e _ => by rw [h3]
  rw [show (∑ q : Fin 64, _) = ∑ q : Fin (49 + 15), _ from rfl, Fin.sum_univ_add]
  rw [Finset.sum_eq_zero (f := fun q : Fin 15 => _) fun q _ => Finset.sum_eq_zero fun j _ => by
    rw [hseg j (Fin.natAdd 49 q), sum_none _ _ (by simp), mul_zero], add_zero]
  refine Finset.sum_congr rfl fun c _ => ?_
  rw [← share_eq]
  refine Finset.sum_congr rfl fun j _ => ?_
  rw [show (Fin.castAdd 15 c : Fin 64) = ⟨c.val, by omega⟩ from rfl, hseg j ⟨c.val, by omega⟩, sum_run (fun e => sqd (x0 (ix2 r e)) (x1 (ix2 r e))) c j,
    weight_first h2, picked_second h2, objMask_apply (reads_T h2 r c), noObjMask_apply (reads_T h2 r c)]
  rfl

end

end Cert.KernelIdeal.Block

end
-- ==== Proof.KernelHost.lean ====
module

public import proofs.«01_k».proof.Proof.KernelBlock

/-! What the kernel's windows read: rows of the two arguments, and the two arrays of zeros and ones. -/

@[expose] public section

set_option maxRecDepth 16384

noncomputable section

namespace Cert.KernelIdeal.Host

open Cert.KernelIdeal Cert.KernelIdeal.Gen Cert.KernelIdeal.Block Cert.Cell
open Idealize.ShloMosaic Idealize.ShloMosaic.TcCoe Idealize.SL.Sem Idealize.ShloMosaic.StableHlo

variable (m : (ℓ : Loc nD τ sig) → Buf (Elt Ideal) ℓ) (c : Dev nD)

/-- The prediction's window moves down one block of rows at each point. -/
theorem index_0 : ∀ t : Fin cfg0.N, win0_0.index t 0 = t.val ∧ win0_0.index t 1 = 0 := by decide +kernel

/-- The target's window moves down one block of rows at each point. -/
theorem index_1 : ∀ t : Fin cfg0.N, win0_1.index t 0 = t.val ∧ win0_1.index t 1 = 0 := by decide +kernel

/-- The box columns' window stays. -/
theorem index_2 : ∀ t : Fin cfg0.N, win0_2.index t 0 = 0 ∧ win0_2.index t 1 = 0 := by decide +kernel

/-- The segment columns' window stays. -/
theorem index_3 : ∀ t : Fin cfg0.N, win0_3.index t 0 = 0 ∧ win0_3.index t 1 = 0 := by decide +kernel

/-- Row `r` of the prediction's block at point `t`. -/
theorem iblk_0 (t : Fin cfg0.N) (r : Fin 1024) (e : Fin 1470) (R : Fin 16384) (hR : R.val = t.val * 1024 + r.val) :
    (iblk m c 0 t : FVec Ideal S1024x1470 .f32) (ix2 r e) = (V m c main_arg0 : FVec Ideal S16384x1470 .f32) (ix2 R e) := by
  unfold iblk
  rw [View.read_apply]
  show V m c main_arg0 _ = V m c main_arg0 _
  congr 1
  funext a
  apply Fin.ext
  match a with
  | ⟨0, _⟩ => show win0_0.index t 0 * 1024 + 1 * r.val = R.val; rw [(index_0 t).1]; omega
  | ⟨1, _⟩ => show win0_0.index t 1 * 1470 + 1 * e.val = e.val; rw [(index_0 t).2]; omega

/-- Row `r` of the target's block at point `t`. -/
theorem iblk_1 (t : Fin cfg0.N) (r : Fin 1024) (e : Fin 1470) (R : Fin 16384) (hR : R.val = t.val * 1024 + r.val) :
    (iblk m c 1 t : FVec Ideal S1024x1470 .bf16) (ix2 r e) = (V m c main_v1 : FVec Ideal S16384x1470 .bf16) (ix2 R e) := by
  unfold iblk
  rw [View.read_apply]
  show V m c main_v1 _ = V m c main_v1 _
  congr 1
  funext a
  apply Fin.ext
  match a with
  | ⟨0, _⟩ => show win0_1.index t 0 * 1024 + 1 * r.val = R.val; rw [(index_1 t).1]; omega
  | ⟨1, _⟩ => show win0_1.index t 1 * 1470 + 1 * e.val = e.val; rw [(index_1 t).2]; omega

/-- The box columns' block is the whole array. -/
theorem iblk_2 (t : Fin cfg0.N) (e : Fin 1470) (k : Fin 512) :
    (iblk m c 2 t : FVec Ideal S1470x512 .bf16) (ix2 e k) = (V m c main_v11 : FVec Ideal S1470x512 .bf16) (ix2 e k) := by
  unfold iblk
  rw [View.read_apply]
  show V m c main_v11 _ = V m c main_v11 _
  congr 1
  funext a
  apply Fin.ext
  match a with
  | ⟨0, _⟩ => show win0_2.index t 0 * 1470 + 1 * e.val = e.val; rw [(index_2 t).1]; omega
  | ⟨1, _⟩ => show win0_2.index t 1 * 512 + 1 * k.val = k.val; rw [(index_2 t).2]; omega

/-- The segment columns' block is the whole array. -/
theorem iblk_3 (t : Fin cfg0.N) (e : Fin 1470) (k : Fin 320) :
    (iblk m c 3 t : FVec Ideal S1470x320 .bf16) (ix2 e k) = (V m c main_v25 : FVec Ideal S1470x320 .bf16) (ix2 e k) := by
  unfold iblk
  rw [View.read_apply]
  show V m c main_v25 _ = V m c main_v25 _
  congr 1
  funext a
  apply Fin.ext
  match a with
  | ⟨0, _⟩ => show win0_3.index t 0 * 1470 + 1 * e.val = e.val; rw [(index_3 t).1]; omega
  | ⟨1, _⟩ => show win0_3.index t 1 * 320 + 1 * k.val = k.val; rw [(index_3 t).2]; omega

/-- An element's number less thirty times a cell's, as a signed word. -/
theorem offset_toInt (e q : Nat) (he : e < 1470) (hq : q < 64) :
    (IntOp.subi (BitVec.ofNat 32 e) (IntOp.muli 30#32 (BitVec.ofNat 32 q))).toInt = (e : Int) - 30 * q := by
  have hm : (IntOp.muli 30#32 (BitVec.ofNat 32 q)).toNat = 30 * q := by
    show (30#32 * BitVec.ofNat 32 q).toNat = _
    rw [BitVec.toNat_mul, BitVec.toNat_ofNat, BitVec.toNat_ofNat, Nat.mod_eq_of_lt (by omega : q < 2 ^ 32), Nat.mod_eq_of_lt (by decide : 30 < 2 ^ 32)]
    exact Nat.mod_eq_of_lt (by omega)
  have hs : (IntOp.subi (BitVec.ofNat 32 e) (IntOp.muli 30#32 (BitVec.ofNat 32 q))).toNat = (2 ^ 32 - 30 * q + e) % 2 ^ 32 := by
    show (BitVec.ofNat 32 e - IntOp.muli 30#32 (BitVec.ofNat 32 q)).toNat = _
    rw [BitVec.toNat_sub, hm, BitVec.toNat_ofNat, Nat.mod_eq_of_lt (by omega : e < 2 ^ 32)]
  rw [BitVec.toInt_eq_toNat_cond, hs]
  split <;> omega

/-- A small number as a signed word. -/
theorem small_toInt (v : Nat) (hv : v < 30) : (BitVec.ofNat 32 v).toInt = v := by
  rw [BitVec.toInt_eq_toNat_cond, BitVec.toNat_ofNat]
  split <;> omega

/-- The equality bit of a box column. -/
theorem eq_bit (e q v : Nat) (he : e < 1470) (hq : q < 64) (hv : v < 30) :
    IntOp.cmpi CmpIPredicate.eq (IntOp.subi (BitVec.ofNat 32 e) (IntOp.muli 30#32 (BitVec.ofNat 32 q))) (BitVec.ofNat 32 v)
      = BitVec.ofBool (decide (e = 30 * q + v)) := by
  show BitVec.ofBool (_ == _) = _
  rw [beq_eq_decide]
  congr 1
  refine decide_eq_decide.mpr ?_
  rw [← BitVec.toInt_inj, offset_toInt e q he hq, small_toInt v hv]
  omega

/-- The lower bound's bit of a segment column. -/
theorem ge_bit (e q v : Nat) (he : e < 1470) (hq : q < 64) (hv : v < 30) :
    IntOp.cmpi CmpIPredicate.sge (IntOp.subi (BitVec.ofNat 32 e) (IntOp.muli 30#32 (BitVec.ofNat 32 q))) (BitVec.ofNat 32 v)
      = BitVec.ofBool (decide (30 * q + v ≤ e)) := by
  show BitVec.ofBool (BitVec.sle _ _) = _
  unfold BitVec.sle
  congr 1
  refine decide_eq_decide.mpr ?_
  rw [offset_toInt e q he hq, small_toInt v hv]
  omega

/-- The upper bound's bit of a segment column. -/
theorem le_bit (e q v : Nat) (he : e < 1470) (hq : q < 64) (hv : v < 30) :
    IntOp.cmpi CmpIPredicate.sle (IntOp.subi (BitVec.ofNat 32 e) (IntOp.muli 30#32 (BitVec.ofNat 32 q))) (BitVec.ofNat 32 v)
      = BitVec.ofBool (decide (e ≤ 30 * q + v)) := by
  show BitVec.ofBool (BitVec.sle _ _) = _
  unfold BitVec.sle
  congr 1
  refine decide_eq_decide.mpr ?_
  rw [offset_toInt e q he hq, small_toInt v hv]
  omega

/-- A bit as an unsigned number. -/
theorem uitofp_bit (b : Bool) : FloatOps.uitofp (F := Ideal) FTy.bf16 (BitVec.ofBool b) = bit b := by
  show (((BitVec.ofBool b).toNat : ℝ) : EReal) = bit b
  cases b <;> simp [bit]

/-- The table of box elements. -/
theorem elem_word (g : Fin 8) : lit0 (S8.rowMajor (ix1 g)) = BitVec.ofNat 32 (elem g) := by revert g; decide

/-- The table of first elements. -/
theorem lo_word (j : Fin 5) : lit1 (S5.rowMajor (ix1 j)) = BitVec.ofNat 32 (lo j) := by revert j; decide

/-- The table of last elements. -/
theorem hi_word (j : Fin 5) : lit2 (S5.rowMajor (ix1 j)) = BitVec.ofNat 32 (hi j) := by revert j; decide

/-- The prediction is the argument. -/
theorem pred_eq : V m c main_arg0 = m ((c : Thread nD τ).loc main_arg0) := by
  entry_read
  rfl

/-- The target's rows are the argument's cells, laid out in order. -/
theorem target_eq (R : Fin 16384) (k : Fin 49) (e : Fin 30) :
    (V m c main_v1 : FVec Ideal S16384x1470 .bf16) (ix2 R ⟨k.val * 30 + e.val, by omega⟩)
      = (m ((c : Thread nD τ).loc main_arg1) : FVec Ideal S16384x7x7x30 .f32) (ix4 R ⟨k.val / 7, by omega⟩ ⟨k.val % 7, by omega⟩ e) := by
  have h1 : (k.val * 30 + e.val) / 210 = k.val / 7 := by omega
  have h2 : (k.val * 30 + e.val) / 30 % 7 = k.val % 7 := by omega
  have h3 : (k.val * 30 + e.val) % 30 = e.val := by omega
  entry_read
  pointwise
  simp only [h1, h2, h3]

/-- The first array of zeros and ones reads the box elements. -/
theorem isBox (t : Fin cfg0.N) : IsBox (iblk m c 2 t) := by
  intro e g q
  have h1 : (g.val * 64 + q.val) / 64 = g.val := by omega
  have h2 : (g.val * 64 + q.val) % 64 = q.val := by omega
  have hg : elem g < 30 := (by decide : ∀ g, elem g < 30) g
  refine (iblk_2 m c t e _).trans ?_
  entry_read
  pointwise
  try simp only [h1, h2]
  rw [elem_word g, eq_bit _ _ _ e.isLt q.isLt hg, uitofp_bit]

/-- The second array of zeros and ones sums the segments. -/
theorem isSeg (t : Fin cfg0.N) : IsSeg (iblk m c 3 t) := by
  intro e j q
  have h1 : (j.val * 64 + q.val) / 64 = j.val := by omega
  have h2 : (j.val * 64 + q.val) % 64 = q.val := by omega
  have hl : lo j < 30 := (by decide : ∀ j, lo j < 30) j
  have hh : hi j < 30 := (by decide : ∀ j, hi j < 30) j
  have ha (u v : Bool) : IntOp.andi (BitVec.ofBool u) (BitVec.ofBool v) = BitVec.ofBool (u && v) := by revert u v; decide
  refine (iblk_3 m c t e _).trans ?_
  entry_read
  pointwise
  try simp only [h1, h2]
  rw [lo_word j, hi_word j, ge_bit _ _ _ e.isLt q.isLt hl, le_bit _ _ _ e.isLt q.isLt hh, ha, uitofp_bit]

end Cert.KernelIdeal.Host

end
-- ==== Proof.KernelValue.lean ====
module

public import proofs.«01_k».proof.Proof.KernelHost

/-! The kernel's result: the sum over all rows and cells of the cell's share of the loss. -/

@[expose] public section

set_option maxRecDepth 16384

noncomputable section

namespace Cert.KernelIdeal.Host

open Cert.KernelIdeal Cert.KernelIdeal.Gen Cert.KernelIdeal.Block Cert.Cell
open Idealize.ShloMosaic Idealize.ShloMosaic.TcCoe Idealize.SL.Sem Idealize.ShloMosaic.StableHlo

/-- The predicted elements of cell `k` of row `R`. -/
def predCell (p : FVec Ideal S16384x1470 .f32) (R : Fin 16384) (k : Fin 49) (e : Fin 30) : EReal :=
  p (ix2 R ⟨k.val * 30 + e.val, by omega⟩)

/-- The target elements of cell `k` of row `R`. -/
def targetCell (t : FVec Ideal S16384x7x7x30 .f32) (R : Fin 16384) (k : Fin 49) (e : Fin 30) : EReal :=
  t (ix4 R ⟨k.val / 7, by omega⟩ ⟨k.val % 7, by omega⟩ e)

/-- The loss of one row. -/
def rowLoss (p : FVec Ideal S16384x1470 .f32) (t : FVec Ideal S16384x7x7x30 .f32) (R : Fin 16384) : EReal :=
  ∑ k : Fin 49, share (predCell p R k) (targetCell t R k)

/-- The loss of the rows of block `n`; past the last block, nothing. -/
def blockLoss (p : FVec Ideal S16384x1470 .f32) (t : FVec Ideal S16384x7x7x30 .f32) (n : ℕ) : EReal :=
  if h : n < 16 then ∑ r : Fin 1024, rowLoss p t ⟨n * 1024 + r.val, by omega⟩ else 0

variable (m : (ℓ : Loc nD τ sig) → Buf (Elt Ideal) ℓ) (c : Dev nD)

/-- The prediction, as launched. -/
abbrev predArg : FVec Ideal S16384x1470 .f32 := m ((c : Thread nD τ).loc main_arg0)

/-- The target, as launched. -/
abbrev targetArg : FVec Ideal S16384x7x7x30 .f32 := m ((c : Thread nD τ).loc main_arg1)

/-- A point of the grid adds its block's loss. -/
theorem step_block (t : Fin cfg0.N) (a : FVec Ideal S1x1 .f32) :
    step (iblk m c 0 t) (iblk m c 1 t) (iblk m c 2 t) (iblk m c 3 t) a (ix2 0 0)
      = a (ix2 0 0) + blockLoss (predArg m c) (targetArg m c) t.val := by
  have ht : t.val < 16 := lt_of_lt_of_eq t.isLt N_0
  rw [step_apply (isBox m c t) (isSeg m c t)]
  congr 1
  unfold blockLoss
  rw [dif_pos ht]
  refine Finset.sum_congr rfl fun r _ => Finset.sum_congr rfl fun k _ => ?_
  have hp : cellAt (φ := .f32) (iblk m c 0 t) r k = predCell (predArg m c) ⟨t.val * 1024 + r.val, by omega⟩ k := by
    funext e
    refine (iblk_0 m c t r _ ⟨t.val * 1024 + r.val, by omega⟩ rfl).trans ?_
    rw [pred_eq]
    rfl
  have hT : cellAt (φ := .bf16) (iblk m c 1 t) r k = targetCell (targetArg m c) ⟨t.val * 1024 + r.val, by omega⟩ k := by
    funext e
    refine (iblk_1 m c t r _ ⟨t.val * 1024 + r.val, by omega⟩ rfl).trans ?_
    exact target_eq m c _ k e
  rw [hp, hT]

/-- The generated step is the block's step. -/
theorem step4_eq (n : ℕ) (h : n < cfg0.N) (a : FVec Ideal S1x1 .f32) :
    Value.step4 m c n h a = step (iblk m c 0 ⟨n, h⟩) (iblk m c 1 ⟨n, h⟩) (iblk m c 2 ⟨n, h⟩) (iblk m c 3 ⟨n, h⟩) a := by
  unfold Value.step4 step
  rfl

/-- The first point is a step from zero. -/
theorem reset4_eq (n : ℕ) (h : n < cfg0.N) : Value.reset4 m c n h = Value.step4 m c n h (k0_pay1 (F := Ideal)) := by
  unfold Value.step4 Value.reset4
  rfl

/-- The zero that the first point starts from. -/
theorem zero_apply : (k0_pay1 (F := Ideal)) (ix2 0 0) = 0 := by
  pointwise [k0_pay1]

/-- A one-by-one array has one index. -/
theorem idx_eq (i : S1x1.Idx) : i = ix2 0 0 := by
  funext a
  match a with
  | ⟨0, _⟩ => exact Subsingleton.elim (α := Fin 1) _ _
  | ⟨1, _⟩ => exact Subsingleton.elim (α := Fin 1) _ _

/-- The kernel's result is the sum of all rows' losses. -/
theorem result_apply (i : S1x1.Idx) :
    (Value.G4 m c : FVec Ideal S1x1 .f32) i = ∑ R : Fin 16384, rowLoss (predArg m c) (targetArg m c) R := by
  have hN : cfg0.N = 16 := N_0
  have hr : Value.run4Of i = 0 := by rw [idx_eq i]; rfl
  have hb : 16 * Value.run4Of i + 15 < cfg0.N := by rw [hr, hN]; decide
  have hs (n : ℕ) (h : n < cfg0.N) (acc : FVec Ideal S1x1 .f32) (j : S1x1.Idx) :
      Value.step4 m c n h acc j = acc j + blockLoss (predArg m c) (targetArg m c) n := by
    rw [idx_eq j, step4_eq]
    exact step_block m c ⟨n, h⟩ acc
  unfold Value.G4
  rw [dif_pos hb]
  refine (Pipeline.accAt_add_apply (Value.reset4 m c) (Value.step4 m c) (fun _ => (0 : EReal))
    (fun n _ => blockLoss (predArg m c) (targetArg m c) n) (16 * Value.run4Of i) 15
    (fun h j => ?_) (fun n h acc j _ _ => hs n h acc j) 15 le_rfl hb _).trans ?_
  · rw [reset4_eq, hs, idx_eq j, zero_apply]
  · rw [hr, zero_add, Finset.sum_range, Fin.sum_univ_tiles 16 1024 rfl]
    refine Finset.sum_congr rfl fun n _ => ?_
    show blockLoss _ _ (16 * 0 + n.val) = _
    rw [show 16 * 0 + n.val = n.val by omega]
    unfold blockLoss
    rw [dif_pos n.isLt]

end Cert.KernelIdeal.Host

end
-- ==== Proof.RefOps.lean ====
module

public import proofs.«01_k».proof.Proof.Gen.ReferenceIdeal
public import Idealize.ShloMosaic.Lib.StableHlo.Run
public import Idealize.ShloMosaic.Lib.Pipeline.Frame

/-! The reference's host operations as lists, one list per step of the loss, and what the lists write.
    The lists are the launch set-up: each entry is the printed program's own operation, in its order. -/

@[expose] public section

set_option Elab.async false
set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- An array of shape `S` with elements of type `e`. -/
abbrev Arr (F : FTy → Type) (S : Shape) (e : EltTy) : Type := (⟨S, e⟩ : BufTy).Contents (Elt F)

/-- Two pairs of coordinates side by side: the corners of a box. -/
def corners (a b : Arr F S802816x2x2 .f32) : Arr F S802816x2x4 .f32 :=
  concatenate S802816x2x4 2 [⟨S802816x2x2, a⟩, ⟨S802816x2x2, b⟩] concatenates_S802816x2x2_S802816x2x2_S802816x2x4_d2

/-- The largest values that the arg-max keeps beside its indices. -/
def topValue (x : Arr F S802816x2x2 .f32) (y : Arr F S802816x2x2 .i32) (u : Arr F S_ .f32) (v : Arr F S_ .i32) : Arr F S802816x2 .f32 :=
  fun j => (Host.argReduce reducer_argmax_f32_i32 x y u v reducesTo_S802816x2x2_S802816x2_d1 h_S_ j).1

/-- The indices of the largest values: the arg-max over the predicted boxes. -/
def topIndex (x : Arr F S802816x2x2 .f32) (y : Arr F S802816x2x2 .i32) (u : Arr F S_ .f32) (v : Arr F S_ .i32) : Arr F S802816x2 .i32 :=
  fun j => (Host.argReduce reducer_argmax_f32_i32 x y u v reducesTo_S802816x2x2_S802816x2_d1 h_S_ j).2

/-- The operations of the cell masks, the cells as rows of 30 and the class term. -/
def opsCells : List (HloOp τ sig (Elt F)) :=
  [ nullary main_c (fun i => lit0 (S2.rowMajor i)),
    reshape main_arg1 main_v0 (rfl : (.f32 : EltTy) = .f32) shapeCasts_S16384x7x7x30_S16384x49x30,
    reshape main_arg0 main_v1 (rfl : (.f32 : EltTy) = .f32) shapeCasts_S16384x1470_S16384x49x30,
    unary main_v0 main_v2 ((extractStridedSlice S16384x49x1 ![0, 0, 5] · slices_S16384x49x30_S16384x49x1_0_0_5) : Arr F S16384x49x30 .f32 → Arr F S16384x49x1 .f32),
    reshape main_v2 main_v3 (rfl : (.f32 : EltTy) = .f32) shapeCasts_S16384x49x1_S16384x49,
    nullary main_cst (constant S_ .f32 0x00000000#32),
    unary main_cst main_v4 (broadcastInDim S16384x49 ![] bcast_S_S16384x49 : Arr F S_ .f32 → Arr F S16384x49 .f32),
    binary main_v3 main_v4 main_v5 (cmpf .ogt : Arr F S16384x49 .f32 → Arr F S16384x49 .f32 → Arr F S16384x49 .i1),
    unary main_v5 main_v6 (uitofp .f32 : Arr F S16384x49 .i1 → Arr F S16384x49 .f32),
    reshape main_v6 main_v7 (rfl : (.f32 : EltTy) = .f32) shapeCasts_S16384x49_S802816,
    unary main_v0 main_v8 ((extractStridedSlice S16384x49x1 ![0, 0, 5] · slices_S16384x49x30_S16384x49x1_0_0_5) : Arr F S16384x49x30 .f32 → Arr F S16384x49x1 .f32),
    reshape main_v8 main_v9 (rfl : (.f32 : EltTy) = .f32) shapeCasts_S16384x49x1_S16384x49,
    nullary main_cst_0 (constant S_ .f32 0x00000000#32),
    unary main_cst_0 main_v10 (broadcastInDim S16384x49 ![] bcast_S_S16384x49 : Arr F S_ .f32 → Arr F S16384x49 .f32),
    binary main_v9 main_v10 main_v11 (cmpf .oeq : Arr F S16384x49 .f32 → Arr F S16384x49 .f32 → Arr F S16384x49 .i1),
    unary main_v11 main_v12 (uitofp .f32 : Arr F S16384x49 .i1 → Arr F S16384x49 .f32),
    reshape main_v12 main_v13 (rfl : (.f32 : EltTy) = .f32) shapeCasts_S16384x49_S802816,
    reshape main_v0 main_v14 (rfl : (.f32 : EltTy) = .f32) shapeCasts_S16384x49x30_S802816x30,
    reshape main_v1 main_v15 (rfl : (.f32 : EltTy) = .f32) shapeCasts_S16384x49x30_S802816x30,
    unary main_v15 main_v16 ((extractStridedSlice S802816x20 ![0, 10] · slices_S802816x30_S802816x20_0_10) : Arr F S802816x30 .f32 → Arr F S802816x20 .f32),
    unary main_v14 main_v17 ((extractStridedSlice S802816x20 ![0, 10] · slices_S802816x30_S802816x20_0_10) : Arr F S802816x30 .f32 → Arr F S802816x20 .f32),
    binary main_v16 main_v17 main_v18 (subf : Arr F S802816x20 .f32 → Arr F S802816x20 .f32 → Arr F S802816x20 .f32),
    binary main_v18 main_v18 main_v19 (mulf : Arr F S802816x20 .f32 → Arr F S802816x20 .f32 → Arr F S802816x20 .f32),
    nullary main_cst_1 (constant S_ .f32 0x00000000#32),
    binary main_v19 main_cst_1 main_v20 ((fun x v => Host.reduceAdd x v reducesTo_S802816x20_S802816_d1 h_S_) : Arr F S802816x20 .f32 → Arr F S_ .f32 → Arr F S802816 .f32),
    binary main_v7 main_v20 main_v21 (mulf : Arr F S802816 .f32 → Arr F S802816 .f32 → Arr F S802816 .f32),
    nullary main_cst_2 (constant S_ .f32 0x00000000#32),
    binary main_v21 main_cst_2 main_v22 ((fun x v => Host.reduceAdd x v reducesTo_S802816_S_d0 h_S_) : Arr F S802816 .f32 → Arr F S_ .f32 → Arr F S_ .f32) ]

/-- The operations of the predicted confidences, taken from the cells' columns. -/
def opsTakeP : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S2, .i32⟩) main_call0_v0) (broadcastInDim S2 ![] bcast_S_S2),
    TRef.binary (TRef.of (T := ⟨S2, .i32⟩) main_c) (TRef.of (T := ⟨S2, .i32⟩) main_call0_v0) (TRef.of (T := ⟨S2, .i1⟩) main_call0_v1) (cmpi .slt),
    TRef.nullary (TRef.of (T := ⟨S_, .i32⟩) main_call0_c_0) (constantI S_ 32 30#32),
    TRef.unary (TRef.of (T := ⟨S_, .i32⟩) main_call0_c_0) (TRef.of (T := ⟨S2, .i32⟩) main_call0_v2) (broadcastInDim S2 ![] bcast_S_S2),
    TRef.binary (TRef.of (T := ⟨S2, .i32⟩) main_c) (TRef.of (T := ⟨S2, .i32⟩) main_call0_v2) (TRef.of (T := ⟨S2, .i32⟩) main_call0_v3) addi,
    TRef.ternary (TRef.of (T := ⟨S2, .i1⟩) main_call0_v1) (TRef.of (T := ⟨S2, .i32⟩) main_call0_v3) (TRef.of (T := ⟨S2, .i32⟩) main_c) (TRef.of (T := ⟨S2, .i32⟩) main_call0_v4) select,
    TRef.unary (TRef.of (T := ⟨S2, .i32⟩) main_call0_v4) (TRef.of (T := ⟨S2x1, .i32⟩) main_call0_v5) (broadcastInDim S2x1 ![0] bcast_S2_S2x1_0),
    TRef.nullary (TRef.of (T := ⟨S1, .i32⟩) main_call0_c_1) (constantI S1 32 29#32),
    TRef.nullary (TRef.of (T := ⟨S_, .i32⟩) main_call0_c_2) (constantI S_ 32 0#32),
    TRef.unary (TRef.of (T := ⟨S_, .i32⟩) main_call0_c_2) (TRef.of (T := ⟨S2x1, .i32⟩) main_call0_v6) (broadcastInDim S2x1 ![] bcast_S_S2x1),
    TRef.binary (TRef.of (T := ⟨S2x1, .i32⟩) main_call0_v5) (TRef.of (T := ⟨S2x1, .i32⟩) main_call0_v6) (TRef.of (T := ⟨S2x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S2x1, .i32⟩) main_call0_v9) (broadcastInDim S2x1 ![0, 1] bcast_S1x1_S2x1_0_1),
    TRef.binary (TRef.of (T := ⟨S2x1, .i32⟩) main_call0_v5) (TRef.of (T := ⟨S2x1, .i32⟩) main_call0_v9) (TRef.of (T := ⟨S2x1, .i1⟩) main_call0_v10) (cmpi .sle),
    TRef.binary (TRef.of (T := ⟨S2x1, .i1⟩) main_call0_v7) (TRef.of (T := ⟨S2x1, .i1⟩) main_call0_v10) (TRef.of (T := ⟨S2x1, .i1⟩) main_call0_v11) andi,
    TRef.nullary (TRef.of (T := ⟨S_, .i1⟩) main_call0_c_3) (constantI S_ 1 1#1),
    TRef.binary (TRef.of (T := ⟨S2x1, .i1⟩) main_call0_v11) (TRef.of (T := ⟨S_, .i1⟩) main_call0_c_3) (TRef.of (T := ⟨S2, .i1⟩) main_call0_v12) (fun x v => Host.reduce IntOp.andi x v reducesTo_S2x1_S2_d1 h_S_),
    TRef.binary (TRef.of (T := ⟨S802816x30, .f32⟩) main_v15) (TRef.of (T := ⟨S2x1, .i32⟩) main_call0_v5) (TRef.of (T := ⟨S802816x2, .f32⟩) main_call0_v13) (fun x i => Host.gather gather_S802816x30_S2x1_S802816x2_0_1_n_n_1_1_8028161 x i),
    TRef.unary (TRef.of (T := ⟨S2, .i1⟩) main_call0_v12) (TRef.of (T := ⟨S802816x2, .i1⟩) main_call0_v14) (broadcastInDim S802816x2 ![1] bcast_S2_S802816x2_1),
    TRef.nullary (TRef.of (T := ⟨S_, .f32⟩) main_call0_cst) (constant S_ .f32 0x7FC00000#32),
    TRef.unary (TRef.of (T := ⟨S_, .f32⟩) main_call0_cst) (TRef.of (T := ⟨S802816x2, .f32⟩) main_call0_v15) (broadcastInDim S802816x2 ![] bcast_S_S802816x2),
    TRef.ternary (TRef.of (T := ⟨S802816x2, .i1⟩) main_call0_v14) (TRef.of (T := ⟨S802816x2, .f32⟩) main_call0_v13) (TRef.of (T := ⟨S802816x2, .f32⟩) main_call0_v15) (TRef.of (T := ⟨S802816x2, .f32⟩) main_v23) select ]

/-- The operations of the target confidences, taken from the cells' columns. -/
def opsTakeT : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S2, .i32⟩) main_call1_v0) (broadcastInDim S2 ![] bcast_S_S2),
    TRef.binary (TRef.of (T := ⟨S2, .i32⟩) main_c) (TRef.of (T := ⟨S2, .i32⟩) main_call1_v0) (TRef.of (T := ⟨S2, .i1⟩) main_call1_v1) (cmpi .slt),
    TRef.nullary (TRef.of (T := ⟨S_, .i32⟩) main_call1_c_0) (constantI S_ 32 30#32),
    TRef.unary (TRef.of (T := ⟨S_, .i32⟩) main_call1_c_0) (TRef.of (T := ⟨S2, .i32⟩) main_call1_v2) (broadcastInDim S2 ![] bcast_S_S2),
    TRef.binary (TRef.of (T := ⟨S2, .i32⟩) main_c) (TRef.of (T := ⟨S2, .i32⟩) main_call1_v2) (TRef.of (T := ⟨S2, .i32⟩) main_call1_v3) addi,
    TRef.ternary (TRef.of (T := ⟨S2, .i1⟩) main_call1_v1) (TRef.of (T := ⟨S2, .i32⟩) main_call1_v3) (TRef.of (T := ⟨S2, .i32⟩) main_c) (TRef.of (T := ⟨S2, .i32⟩) main_call1_v4) select,
    TRef.unary (TRef.of (T := ⟨S2, .i32⟩) main_call1_v4) (TRef.of (T := ⟨S2x1, .i32⟩) main_call1_v5) (broadcastInDim S2x1 ![0] bcast_S2_S2x1_0),
    TRef.nullary (TRef.of (T := ⟨S1, .i32⟩) main_call1_c_1) (constantI S1 32 29#32),
    TRef.nullary (TRef.of (T := ⟨S_, .i32⟩) main_call1_c_2) (constantI S_ 32 0#32),
    TRef.unary (TRef.of (T := ⟨S_, .i32⟩) main_call1_c_2) (TRef.of (T := ⟨S2x1, .i32⟩) main_call1_v6) (broadcastInDim S2x1 ![] bcast_S_S2x1),
    TRef.binary (TRef.of (T := ⟨S2x1, .i32⟩) main_call1_v5) (TRef.of (T := ⟨S2x1, .i32⟩) main_call1_v6) (TRef.of (T := ⟨S2x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S2x1, .i32⟩) main_call1_v9) (broadcastInDim S2x1 ![0, 1] bcast_S1x1_S2x1_0_1),
    TRef.binary (TRef.of (T := ⟨S2x1, .i32⟩) main_call1_v5) (TRef.of (T := ⟨S2x1, .i32⟩) main_call1_v9) (TRef.of (T := ⟨S2x1, .i1⟩) main_call1_v10) (cmpi .sle),
    TRef.binary (TRef.of (T := ⟨S2x1, .i1⟩) main_call1_v7) (TRef.of (T := ⟨S2x1, .i1⟩) main_call1_v10) (TRef.of (T := ⟨S2x1, .i1⟩) main_call1_v11) andi,
    TRef.nullary (TRef.of (T := ⟨S_, .i1⟩) main_call1_c_3) (constantI S_ 1 1#1),
    TRef.binary (TRef.of (T := ⟨S2x1, .i1⟩) main_call1_v11) (TRef.of (T := ⟨S_, .i1⟩) main_call1_c_3) (TRef.of (T := ⟨S2, .i1⟩) main_call1_v12) (fun x v => Host.reduce IntOp.andi x v reducesTo_S2x1_S2_d1 h_S_),
    TRef.binary (TRef.of (T := ⟨S802816x30, .f32⟩) main_v14) (TRef.of (T := ⟨S2x1, .i32⟩) main_call1_v5) (TRef.of (T := ⟨S802816x2, .f32⟩) main_call1_v13) (fun x i => Host.gather gather_S802816x30_S2x1_S802816x2_0_1_n_n_1_1_8028161 x i),
    TRef.unary (TRef.of (T := ⟨S2, .i1⟩) main_call1_v12) (TRef.of (T := ⟨S802816x2, .i1⟩) main_call1_v14) (broadcastInDim S802816x2 ![1] bcast_S2_S802816x2_1),
    TRef.nullary (TRef.of (T := ⟨S_, .f32⟩) main_call1_cst) (constant S_ .f32 0x7FC00000#32),
    TRef.unary (TRef.of (T := ⟨S_, .f32⟩) main_call1_cst) (TRef.of (T := ⟨S802816x2, .f32⟩) main_call1_v15) (broadcastInDim S802816x2 ![] bcast_S_S802816x2),
    TRef.ternary (TRef.of (T := ⟨S802816x2, .i1⟩) main_call1_v14) (TRef.of (T := ⟨S802816x2, .f32⟩) main_call1_v13) (TRef.of (T := ⟨S802816x2, .f32⟩) main_call1_v15) (TRef.of (T := ⟨S802816x2, .f32⟩) main_v24) select ]

/-- The operations of the no-object term. -/
def opsNoObj : List (HloOp τ sig (Elt F)) :=
  [ binary main_v23 main_v24 main_v25 (subf : Arr F S802816x2 .f32 → Arr F S802816x2 .f32 → Arr F S802816x2 .f32),
    binary main_v25 main_v25 main_v26 (mulf : Arr F S802816x2 .f32 → Arr F S802816x2 .f32 → Arr F S802816x2 .f32),
    nullary main_cst_3 (constant S_ .f32 0x00000000#32),
    binary main_v26 main_cst_3 main_v27 ((fun x v => Host.reduceAdd x v reducesTo_S802816x2_S802816_d1 h_S_) : Arr F S802816x2 .f32 → Arr F S_ .f32 → Arr F S802816 .f32),
    binary main_v13 main_v27 main_v28 (mulf : Arr F S802816 .f32 → Arr F S802816 .f32 → Arr F S802816 .f32),
    nullary main_cst_4 (constant S_ .f32 0x00000000#32),
    binary main_v28 main_cst_4 main_v29 ((fun x v => Host.reduceAdd x v reducesTo_S802816_S_d0 h_S_) : Arr F S802816 .f32 → Arr F S_ .f32 → Arr F S_ .f32) ]

/-- The operations of the ten box columns and the corners of the boxes. -/
def opsBoxes : List (HloOp τ sig (Elt F)) :=
  [ unary main_v15 main_v30 ((extractStridedSlice S802816x10 ![0, 0] · slices_S802816x30_S802816x10_0_0) : Arr F S802816x30 .f32 → Arr F S802816x10 .f32),
    reshape main_v30 main_v31 (rfl : (.f32 : EltTy) = .f32) shapeCasts_S802816x10_S802816x2x5,
    unary main_v14 main_v32 ((extractStridedSlice S802816x10 ![0, 0] · slices_S802816x30_S802816x10_0_0) : Arr F S802816x30 .f32 → Arr F S802816x10 .f32),
    reshape main_v32 main_v33 (rfl : (.f32 : EltTy) = .f32) shapeCasts_S802816x10_S802816x2x5,
    unary main_v31 main_v34 ((extractStridedSlice S802816x2x2 ![0, 0, 0] · slices_S802816x2x5_S802816x2x2_0_0_0) : Arr F S802816x2x5 .f32 → Arr F S802816x2x2 .f32),
    unary main_v31 main_v35 ((extractStridedSlice S802816x2x2 ![0, 0, 2] · slices_S802816x2x5_S802816x2x2_0_0_2) : Arr F S802816x2x5 .f32 → Arr F S802816x2x2 .f32),
    binary main_v35 main_v35 main_v36 (mulf : Arr F S802816x2x2 .f32 → Arr F S802816x2x2 .f32 → Arr F S802816x2x2 .f32),
    binary main_v34 main_v36 main_v37 (subf : Arr F S802816x2x2 .f32 → Arr F S802816x2x2 .f32 → Arr F S802816x2x2 .f32),
    unary main_v31 main_v38 ((extractStridedSlice S802816x2x2 ![0, 0, 0] · slices_S802816x2x5_S802816x2x2_0_0_0) : Arr F S802816x2x5 .f32 → Arr F S802816x2x2 .f32),
    unary main_v31 main_v39 ((extractStridedSlice S802816x2x2 ![0, 0, 2] · slices_S802816x2x5_S802816x2x2_0_0_2) : Arr F S802816x2x5 .f32 → Arr F S802816x2x2 .f32),
    binary main_v39 main_v39 main_v40 (mulf : Arr F S802816x2x2 .f32 → Arr F S802816x2x2 .f32 → Arr F S802816x2x2 .f32),
    binary main_v38 main_v40 main_v41 (addf : Arr F S802816x2x2 .f32 → Arr F S802816x2x2 .f32 → Arr F S802816x2x2 .f32),
    unary main_v33 main_v42 ((extractStridedSlice S802816x2x2 ![0, 0, 0] · slices_S802816x2x5_S802816x2x2_0_0_0) : Arr F S802816x2x5 .f32 → Arr F S802816x2x2 .f32),
    unary main_v33 main_v43 ((extractStridedSlice S802816x2x2 ![0, 0, 2] · slices_S802816x2x5_S802816x2x2_0_0_2) : Arr F S802816x2x5 .f32 → Arr F S802816x2x2 .f32),
    binary main_v43 main_v43 main_v44 (mulf : Arr F S802816x2x2 .f32 → Arr F S802816x2x2 .f32 → Arr F S802816x2x2 .f32),
    binary main_v42 main_v44 main_v45 (subf : Arr F S802816x2x2 .f32 → Arr F S802816x2x2 .f32 → Arr F S802816x2x2 .f32),
    unary main_v33 main_v46 ((extractStridedSlice S802816x2x2 ![0, 0, 0] · slices_S802816x2x5_S802816x2x2_0_0_0) : Arr F S802816x2x5 .f32 → Arr F S802816x2x2 .f32),
    unary main_v33 main_v47 ((extractStridedSlice S802816x2x2 ![0, 0, 2] · slices_S802816x2x5_S802816x2x2_0_0_2) : Arr F S802816x2x5 .f32 → Arr F S802816x2x2 .f32),
    binary main_v47 main_v47 main_v48 (mulf : Arr F S802816x2x2 .f32 → Arr F S802816x2x2 .f32 → Arr F S802816x2x2 .f32),
    binary main_v46 main_v48 main_v49 (addf : Arr F S802816x2x2 .f32 → Arr F S802816x2x2 .f32 → Arr F S802816x2x2 .f32),
    binary main_v37 main_v41 main_v50 (corners),
    binary main_v45 main_v49 main_v51 (corners),
    unary main_v50 main_v52 ((extractStridedSlice S802816x2x2 ![0, 0, 0] · slices_S802816x2x4_S802816x2x2_0_0_0) : Arr F S802816x2x4 .f32 → Arr F S802816x2x2 .f32) ]

/-- The operations of the areas of the intersections. -/
def opsInter : List (HloOp τ sig (Elt F)) :=
  [ unary main_v52 main_v53 (broadcastInDim S802816x2x1x2 ![0, 1, 3] bcast_S802816x2x2_S802816x2x1x2_0_1_3 : Arr F S802816x2x2 .f32 → Arr F S802816x2x1x2 .f32),
    unary main_v51 main_v54 ((extractStridedSlice S802816x2x2 ![0, 0, 0] · slices_S802816x2x4_S802816x2x2_0_0_0) : Arr F S802816x2x4 .f32 → Arr F S802816x2x2 .f32),
    unary main_v54 main_v55 (broadcastInDim S802816x1x2x2 ![0, 2, 3] bcast_S802816x2x2_S802816x1x2x2_0_2_3 : Arr F S802816x2x2 .f32 → Arr F S802816x1x2x2 .f32),
    unary main_v53 main_v56 (broadcastInDim S802816x2x2x2 ![0, 1, 2, 3] bcast_S802816x2x1x2_S802816x2x2x2_0_1_2_3 : Arr F S802816x2x1x2 .f32 → Arr F S802816x2x2x2 .f32),
    unary main_v55 main_v57 (broadcastInDim S802816x2x2x2 ![0, 1, 2, 3] bcast_S802816x1x2x2_S802816x2x2x2_0_1_2_3 : Arr F S802816x1x2x2 .f32 → Arr F S802816x2x2x2 .f32),
    binary main_v56 main_v57 main_v58 (maximumf : Arr F S802816x2x2x2 .f32 → Arr F S802816x2x2x2 .f32 → Arr F S802816x2x2x2 .f32),
    unary main_v50 main_v59 ((extractStridedSlice S802816x2x2 ![0, 0, 2] · slices_S802816x2x4_S802816x2x2_0_0_2) : Arr F S802816x2x4 .f32 → Arr F S802816x2x2 .f32),
    unary main_v59 main_v60 (broadcastInDim S802816x2x1x2 ![0, 1, 3] bcast_S802816x2x2_S802816x2x1x2_0_1_3 : Arr F S802816x2x2 .f32 → Arr F S802816x2x1x2 .f32),
    unary main_v51 main_v61 ((extractStridedSlice S802816x2x2 ![0, 0, 2] · slices_S802816x2x4_S802816x2x2_0_0_2) : Arr F S802816x2x4 .f32 → Arr F S802816x2x2 .f32),
    unary main_v61 main_v62 (broadcastInDim S802816x1x2x2 ![0, 2, 3] bcast_S802816x2x2_S802816x1x2x2_0_2_3 : Arr F S802816x2x2 .f32 → Arr F S802816x1x2x2 .f32),
    unary main_v60 main_v63 (broadcastInDim S802816x2x2x2 ![0, 1, 2, 3] bcast_S802816x2x1x2_S802816x2x2x2_0_1_2_3 : Arr F S802816x2x1x2 .f32 → Arr F S802816x2x2x2 .f32),
    unary main_v62 main_v64 (broadcastInDim S802816x2x2x2 ![0, 1, 2, 3] bcast_S802816x1x2x2_S802816x2x2x2_0_1_2_3 : Arr F S802816x1x2x2 .f32 → Arr F S802816x2x2x2 .f32),
    binary main_v63 main_v64 main_v65 (minimumf : Arr F S802816x2x2x2 .f32 → Arr F S802816x2x2x2 .f32 → Arr F S802816x2x2x2 .f32),
    binary main_v65 main_v58 main_v66 (subf : Arr F S802816x2x2x2 .f32 → Arr F S802816x2x2x2 .f32 → Arr F S802816x2x2x2 .f32),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S802816x2x2x2, .f32⟩) main_call2_v1) (broadcastInDim S802816x2x2x2 ![] bcast_S_S802816x2x2x2),
    TRef.binary (TRef.of (T := ⟨S802816x2x2x2, .f32⟩) main_call2_v1) (TRef.of (T := ⟨S802816x2x2x2, .f32⟩) main_v66) (TRef.of (T := ⟨S802816x2x2x2, .f32⟩) main_v67) maximumf,
    unary main_v67 main_v68 ((extractStridedSlice S802816x2x2x1 ![0, 0, 0, 0] · slices_S802816x2x2x2_S802816x2x2x1_0_0_0_0) : Arr F S802816x2x2x2 .f32 → Arr F S802816x2x2x1 .f32),
    reshape main_v68 main_v69 (rfl : (.f32 : EltTy) = .f32) shapeCasts_S802816x2x2x1_S802816x2x2,
    unary main_v67 main_v70 ((extractStridedSlice S802816x2x2x1 ![0, 0, 0, 1] · slices_S802816x2x2x2_S802816x2x2x1_0_0_0_1) : Arr F S802816x2x2x2 .f32 → Arr F S802816x2x2x1 .f32),
    reshape main_v70 main_v71 (rfl : (.f32 : EltTy) = .f32) shapeCasts_S802816x2x2x1_S802816x2x2,
    binary main_v69 main_v71 main_v72 (mulf : Arr F S802816x2x2 .f32 → Arr F S802816x2x2 .f32 → Arr F S802816x2x2 .f32) ]

/-- The operations of the intersections over the unions. -/
def opsIou : List (HloOp τ sig (Elt F)) :=
  [ unary main_v50 main_v73 ((extractStridedSlice S802816x2x1 ![0, 0, 2] · slices_S802816x2x4_S802816x2x1_0_0_2) : Arr F S802816x2x4 .f32 → Arr F S802816x2x1 .f32),
    reshape main_v73 main_v74 (rfl : (.f32 : EltTy) = .f32) shapeCasts_S802816x2x1_S802816x2,
    unary main_v50 main_v75 ((extractStridedSlice S802816x2x1 ![0, 0, 0] · slices_S802816x2x4_S802816x2x1_0_0_0) : Arr F S802816x2x4 .f32 → Arr F S802816x2x1 .f32),
    reshape main_v75 main_v76 (rfl : (.f32 : EltTy) = .f32) shapeCasts_S802816x2x1_S802816x2,
    binary main_v74 main_v76 main_v77 (subf : Arr F S802816x2 .f32 → Arr F S802816x2 .f32 → Arr F S802816x2 .f32),
    unary main_v50 main_v78 ((extractStridedSlice S802816x2x1 ![0, 0, 3] · slices_S802816x2x4_S802816x2x1_0_0_3) : Arr F S802816x2x4 .f32 → Arr F S802816x2x1 .f32),
    reshape main_v78 main_v79 (rfl : (.f32 : EltTy) = .f32) shapeCasts_S802816x2x1_S802816x2,
    unary main_v50 main_v80 ((extractStridedSlice S802816x2x1 ![0, 0, 1] · slices_S802816x2x4_S802816x2x1_0_0_1) : Arr F S802816x2x4 .f32 → Arr F S802816x2x1 .f32),
    reshape main_v80 main_v81 (rfl : (.f32 : EltTy) = .f32) shapeCasts_S802816x2x1_S802816x2,
    binary main_v79 main_v81 main_v82 (subf : Arr F S802816x2 .f32 → Arr F S802816x2 .f32 → Arr F S802816x2 .f32),
    binary main_v77 main_v82 main_v83 (mulf : Arr F S802816x2 .f32 → Arr F S802816x2 .f32 → Arr F S802816x2 .f32),
    unary main_v83 main_v84 (broadcastInDim S802816x2x1 ![0, 1] bcast_S802816x2_S802816x2x1_0_1 : Arr F S802816x2 .f32 → Arr F S802816x2x1 .f32),
    unary main_v51 main_v85 ((extractStridedSlice S802816x2x1 ![0, 0, 2] · slices_S802816x2x4_S802816x2x1_0_0_2) : Arr F S802816x2x4 .f32 → Arr F S802816x2x1 .f32),
    reshape main_v85 main_v86 (rfl : (.f32 : EltTy) = .f32) shapeCasts_S802816x2x1_S802816x2,
    unary main_v51 main_v87 ((extractStridedSlice S802816x2x1 ![0, 0, 0] · slices_S802816x2x4_S802816x2x1_0_0_0) : Arr F S802816x2x4 .f32 → Arr F S802816x2x1 .f32),
    reshape main_v87 main_v88 (rfl : (.f32 : EltTy) = .f32) shapeCasts_S802816x2x1_S802816x2,
    binary main_v86 main_v88 main_v89 (subf : Arr F S802816x2 .f32 → Arr F S802816x2 .f32 → Arr F S802816x2 .f32),
    unary main_v51 main_v90 ((extractStridedSlice S802816x2x1 ![0, 0, 3] · slices_S802816x2x4_S802816x2x1_0_0_3) : Arr F S802816x2x4 .f32 → Arr F S802816x2x1 .f32),
    reshape main_v90 main_v91 (rfl : (.f32 : EltTy) = .f32) shapeCasts_S802816x2x1_S802816x2,
    unary main_v51 main_v92 ((extractStridedSlice S802816x2x1 ![0, 0, 1] · slices_S802816x2x4_S802816x2x1_0_0_1) : Arr F S802816x2x4 .f32 → Arr F S802816x2x1 .f32),
    reshape main_v92 main_v93 (rfl : (.f32 : EltTy) = .f32) shapeCasts_S802816x2x1_S802816x2,
    binary main_v91 main_v93 main_v94 (subf : Arr F S802816x2 .f32 → Arr F S802816x2 .f32 → Arr F S802816x2 .f32),
    binary main_v89 main_v94 main_v95 (mulf : Arr F S802816x2 .f32 → Arr F S802816x2 .f32 → Arr F S802816x2 .f32),
    unary main_v95 main_v96 (broadcastInDim S802816x1x2 ![0, 2] bcast_S802816x2_S802816x1x2_0_2 : Arr F S802816x2 .f32 → Arr F S802816x1x2 .f32),
    unary main_v84 main_v97 (broadcastInDim S802816x2x2 ![0, 1, 2] bcast_S802816x2x1_S802816x2x2_0_1_2 : Arr F S802816x2x1 .f32 → Arr F S802816x2x2 .f32),
    unary main_v96 main_v98 (broadcastInDim S802816x2x2 ![0, 1, 2] bcast_S802816x1x2_S802816x2x2_0_1_2 : Arr F S802816x1x2 .f32 → Arr F S802816x2x2 .f32),
    binary main_v97 main_v98 main_v99 (addf : Arr F S802816x2x2 .f32 → Arr F S802816x2x2 .f32 → Arr F S802816x2x2 .f32),
    binary main_v99 main_v72 main_v100 (subf : Arr F S802816x2x2 .f32 → Arr F S802816x2x2 .f32 → Arr F S802816x2x2 .f32),
    binary main_v72 main_v100 main_v101 (Host.divf : Arr F S802816x2x2 .f32 → Arr F S802816x2x2 .f32 → Arr F S802816x2x2 .f32) ]

/-- The operations of the arg-max and the responsible boxes. -/
def opsPick : List (HloOp τ sig (Elt F)) :=
  [ TRef.nullary (TRef.of (T := ⟨S802816x2x2, .i32⟩) main_call3_v0) (iotaInDim S802816x2x2 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S802816x2x2, .f32⟩) main_v101) (TRef.of (T := ⟨S802816x2x2, .i32⟩) main_call3_v0) (TRef.of (T := ⟨S_, .f32⟩) main_call3_cst) (TRef.of (T := ⟨S_, .i32⟩) main_call3_c) (TRef.of (T := ⟨S802816x2, .f32⟩) main_call3_v1_0) topValue,
    TRef.quaternary (TRef.of (T := ⟨S802816x2x2, .f32⟩) main_v101) (TRef.of (T := ⟨S802816x2x2, .i32⟩) main_call3_v0) (TRef.of (T := ⟨S_, .f32⟩) main_call3_cst) (TRef.of (T := ⟨S_, .i32⟩) main_call3_c) (TRef.of (T := ⟨S802816x2, .i32⟩) main_v102) topIndex,
    unary main_v102 main_v103 (broadcastInDim S802816x2x1 ![0, 1] bcast_S802816x2_S802816x2x1_0_1 : Arr F S802816x2 .i32 → Arr F S802816x2x1 .i32),
    nullary main_v104 (iotaInDim S2 32 0),
    unary main_v104 main_v105 (broadcastInDim S1x1x2 ![2] bcast_S2_S1x1x2_2 : Arr F S2 .i32 → Arr F S1x1x2 .i32),
    unary main_v103 main_v106 (broadcastInDim S802816x2x2 ![0, 1, 2] bcast_S802816x2x1_S802816x2x2_0_1_2 : Arr F S802816x2x1 .i32 → Arr F S802816x2x2 .i32),
    unary main_v105 main_v107 (broadcastInDim S802816x2x2 ![0, 1, 2] bcast_S1x1x2_S802816x2x2_0_1_2 : Arr F S1x1x2 .i32 → Arr F S802816x2x2 .i32),
    binary main_v106 main_v107 main_v108 (cmpi .eq : Arr F S802816x2x2 .i32 → Arr F S802816x2x2 .i32 → Arr F S802816x2x2 .i1),
    nullary main_c_6 (constantI S_ 1 0#1),
    binary main_v108 main_c_6 main_v109 ((fun x v => Host.reduce IntOp.ori x v reducesTo_S802816x2x2_S802816x2_d1 h_S_) : Arr F S802816x2x2 .i1 → Arr F S_ .i1 → Arr F S802816x2 .i1),
    unary main_v109 main_v110 (uitofp .f32 : Arr F S802816x2 .i1 → Arr F S802816x2 .f32) ]

/-- The operations of the box terms and the weighted total. -/
def opsLoss : List (HloOp τ sig (Elt F)) :=
  [ unary main_v7 main_v111 (broadcastInDim S802816x1 ![0] bcast_S802816_S802816x1_0 : Arr F S802816 .f32 → Arr F S802816x1 .f32),
    unary main_v111 main_v112 (broadcastInDim S802816x2 ![0, 1] bcast_S802816x1_S802816x2_0_1 : Arr F S802816x1 .f32 → Arr F S802816x2 .f32),
    binary main_v112 main_v110 main_v113 (mulf : Arr F S802816x2 .f32 → Arr F S802816x2 .f32 → Arr F S802816x2 .f32),
    unary main_v31 main_v114 ((extractStridedSlice S802816x2x1 ![0, 0, 4] · slices_S802816x2x5_S802816x2x1_0_0_4) : Arr F S802816x2x5 .f32 → Arr F S802816x2x1 .f32),
    reshape main_v114 main_v115 (rfl : (.f32 : EltTy) = .f32) shapeCasts_S802816x2x1_S802816x2,
    unary main_v33 main_v116 ((extractStridedSlice S802816x2x1 ![0, 0, 4] · slices_S802816x2x5_S802816x2x1_0_0_4) : Arr F S802816x2x5 .f32 → Arr F S802816x2x1 .f32),
    reshape main_v116 main_v117 (rfl : (.f32 : EltTy) = .f32) shapeCasts_S802816x2x1_S802816x2,
    binary main_v115 main_v117 main_v118 (subf : Arr F S802816x2 .f32 → Arr F S802816x2 .f32 → Arr F S802816x2 .f32),
    binary main_v118 main_v118 main_v119 (mulf : Arr F S802816x2 .f32 → Arr F S802816x2 .f32 → Arr F S802816x2 .f32),
    binary main_v113 main_v119 main_v120 (mulf : Arr F S802816x2 .f32 → Arr F S802816x2 .f32 → Arr F S802816x2 .f32),
    nullary main_cst_7 (constant S_ .f32 0x00000000#32),
    binary main_v120 main_cst_7 main_v121 ((fun x v => Host.reduceAdd x v reducesTo_S802816x2_S_d0_1 h_S_) : Arr F S802816x2 .f32 → Arr F S_ .f32 → Arr F S_ .f32),
    unary main_v113 main_v122 (broadcastInDim S802816x2x1 ![0, 1] bcast_S802816x2_S802816x2x1_0_1 : Arr F S802816x2 .f32 → Arr F S802816x2x1 .f32),
    unary main_v31 main_v123 ((extractStridedSlice S802816x2x2 ![0, 0, 0] · slices_S802816x2x5_S802816x2x2_0_0_0) : Arr F S802816x2x5 .f32 → Arr F S802816x2x2 .f32),
    unary main_v33 main_v124 ((extractStridedSlice S802816x2x2 ![0, 0, 0] · slices_S802816x2x5_S802816x2x2_0_0_0) : Arr F S802816x2x5 .f32 → Arr F S802816x2x2 .f32),
    binary main_v123 main_v124 main_v125 (subf : Arr F S802816x2x2 .f32 → Arr F S802816x2x2 .f32 → Arr F S802816x2x2 .f32),
    binary main_v125 main_v125 main_v126 (mulf : Arr F S802816x2x2 .f32 → Arr F S802816x2x2 .f32 → Arr F S802816x2x2 .f32),
    unary main_v122 main_v127 (broadcastInDim S802816x2x2 ![0, 1, 2] bcast_S802816x2x1_S802816x2x2_0_1_2 : Arr F S802816x2x1 .f32 → Arr F S802816x2x2 .f32),
    binary main_v127 main_v126 main_v128 (mulf : Arr F S802816x2x2 .f32 → Arr F S802816x2x2 .f32 → Arr F S802816x2x2 .f32),
    nullary main_cst_8 (constant S_ .f32 0x00000000#32),
    binary main_v128 main_cst_8 main_v129 ((fun x v => Host.reduceAdd x v reducesTo_S802816x2x2_S_d0_1_2 h_S_) : Arr F S802816x2x2 .f32 → Arr F S_ .f32 → Arr F S_ .f32),
    unary main_v113 main_v130 (broadcastInDim S802816x2x1 ![0, 1] bcast_S802816x2_S802816x2x1_0_1 : Arr F S802816x2 .f32 → Arr F S802816x2x1 .f32),
    unary main_v31 main_v131 ((extractStridedSlice S802816x2x2 ![0, 0, 2] · slices_S802816x2x5_S802816x2x2_0_0_2) : Arr F S802816x2x5 .f32 → Arr F S802816x2x2 .f32),
    unary main_v33 main_v132 ((extractStridedSlice S802816x2x2 ![0, 0, 2] · slices_S802816x2x5_S802816x2x2_0_0_2) : Arr F S802816x2x5 .f32 → Arr F S802816x2x2 .f32),
    binary main_v131 main_v132 main_v133 (subf : Arr F S802816x2x2 .f32 → Arr F S802816x2x2 .f32 → Arr F S802816x2x2 .f32),
    binary main_v133 main_v133 main_v134 (mulf : Arr F S802816x2x2 .f32 → Arr F S802816x2x2 .f32 → Arr F S802816x2x2 .f32),
    unary main_v130 main_v135 (broadcastInDim S802816x2x2 ![0, 1, 2] bcast_S802816x2x1_S802816x2x2_0_1_2 : Arr F S802816x2x1 .f32 → Arr F S802816x2x2 .f32),
    binary main_v135 main_v134 main_v136 (mulf : Arr F S802816x2x2 .f32 → Arr F S802816x2x2 .f32 → Arr F S802816x2x2 .f32),
    nullary main_cst_9 (constant S_ .f32 0x00000000#32),
    binary main_v136 main_cst_9 main_v137 ((fun x v => Host.reduceAdd x v reducesTo_S802816x2x2_S_d0_1_2 h_S_) : Arr F S802816x2x2 .f32 → Arr F S_ .f32 → Arr F S_ .f32),
    binary main_v129 main_v137 main_v138 (addf : Arr F S_ .f32 → Arr F S_ .f32 → Arr F S_ .f32),
    nullary main_cst_10 (constant S_ .f32 0x40A00000#32),
    binary main_cst_10 main_v138 main_v139 (mulf : Arr F S_ .f32 → Arr F S_ .f32 → Arr F S_ .f32),
    binary main_v139 main_v121 main_v140 (addf : Arr F S_ .f32 → Arr F S_ .f32 → Arr F S_ .f32),
    nullary main_cst_11 (constant S_ .f32 0x3F000000#32),
    binary main_cst_11 main_v29 main_v141 (mulf : Arr F S_ .f32 → Arr F S_ .f32 → Arr F S_ .f32),
    binary main_v140 main_v141 main_v142 (addf : Arr F S_ .f32 → Arr F S_ .f32 → Arr F S_ .f32),
    binary main_v142 main_v22 main_v143 (addf : Arr F S_ .f32 → Arr F S_ .f32 → Arr F S_ .f32),
    reshape main_v143 main_v144 (rfl : (.f32 : EltTy) = .f32) shapeCasts_S_S1x1 ]

/-- The buffers that `opsCells` writes. -/
abbrev opsCellsW : List (Ref sig .tc) :=
  [main_c, main_v0, main_v1, main_v2, main_v3, main_cst, main_v4, main_v5, main_v6, main_v7, main_v8, main_v9, main_cst_0, main_v10, main_v11, main_v12, main_v13, main_v14, main_v15, main_v16, main_v17, main_v18, main_v19, main_cst_1, main_v20, main_v21, main_cst_2, main_v22]

/-- `opsCells` writes those buffers and no other. -/
theorem opsCells_writes : (opsCells : List (HloOp τ sig (Elt F))).Forall fun op => op.writes ⊆ (opsCellsW.map (Proc.devRef (τ := τ) .tc)).toFinset :=
  forall_writes_sub_of_map rfl

/-- The buffers that `opsTakeP` writes. -/
abbrev opsTakePW : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v23]

/-- `opsTakeP` writes those buffers and no other. -/
theorem opsTakeP_writes : (opsTakeP : List (HloOp τ sig (Elt F))).Forall fun op => op.writes ⊆ (opsTakePW.map (Proc.devRef (τ := τ) .tc)).toFinset :=
  forall_writes_sub_of_map rfl

/-- The buffers that `opsTakeT` writes. -/
abbrev opsTakeTW : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v24]

/-- `opsTakeT` writes those buffers and no other. -/
theorem opsTakeT_writes : (opsTakeT : List (HloOp τ sig (Elt F))).Forall fun op => op.writes ⊆ (opsTakeTW.map (Proc.devRef (τ := τ) .tc)).toFinset :=
  forall_writes_sub_of_map rfl

/-- The buffers that `opsNoObj` writes. -/
abbrev opsNoObjW : List (Ref sig .tc) :=
  [main_v25, main_v26, main_cst_3, main_v27, main_v28, main_cst_4, main_v29]

/-- `opsNoObj` writes those buffers and no other. -/
theorem opsNoObj_writes : (opsNoObj : List (HloOp τ sig (Elt F))).Forall fun op => op.writes ⊆ (opsNoObjW.map (Proc.devRef (τ := τ) .tc)).toFinset :=
  forall_writes_sub_of_map rfl

/-- The buffers that `opsBoxes` writes. -/
abbrev opsBoxesW : List (Ref sig .tc) :=
  [main_v30, main_v31, main_v32, main_v33, main_v34, main_v35, main_v36, main_v37, main_v38, main_v39, main_v40, main_v41, main_v42, main_v43, main_v44, main_v45, main_v46, main_v47, main_v48, main_v49, main_v50, main_v51, main_v52]

/-- `opsBoxes` writes those buffers and no other. -/
theorem opsBoxes_writes : (opsBoxes : List (HloOp τ sig (Elt F))).Forall fun op => op.writes ⊆ (opsBoxesW.map (Proc.devRef (τ := τ) .tc)).toFinset :=
  forall_writes_sub_of_map rfl

/-- The buffers that `opsInter` writes. -/
abbrev opsInterW : List (Ref sig .tc) :=
  [main_v53, main_v54, main_v55, main_v56, main_v57, main_v58, main_v59, main_v60, main_v61, main_v62, main_v63, main_v64, main_v65, main_v66, main_cst_5, main_call2_v0, main_call2_v1, main_v67, main_v68, main_v69, main_v70, main_v71, main_v72]

/-- `opsInter` writes those buffers and no other. -/
theorem opsInter_writes : (opsInter : List (HloOp τ sig (Elt F))).Forall fun op => op.writes ⊆ (opsInterW.map (Proc.devRef (τ := τ) .tc)).toFinset :=
  forall_writes_sub_of_map rfl

/-- The buffers that `opsIou` writes. -/
abbrev opsIouW : List (Ref sig .tc) :=
  [main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101]

/-- `opsIou` writes those buffers and no other. -/
theorem opsIou_writes : (opsIou : List (HloOp τ sig (Elt F))).Forall fun op => op.writes ⊆ (opsIouW.map (Proc.devRef (τ := τ) .tc)).toFinset :=
  forall_writes_sub_of_map rfl

/-- The buffers that `opsPick` writes. -/
abbrev opsPickW : List (Ref sig .tc) :=
  [main_call3_v0, main_call3_cst, main_call3_c, main_call3_v1_0, main_v102, main_v103, main_v104, main_v105, main_v106, main_v107, main_v108, main_c_6, main_v109, main_v110]

/-- `opsPick` writes those buffers and no other. -/
theorem opsPick_writes : (opsPick : List (HloOp τ sig (Elt F))).Forall fun op => op.writes ⊆ (opsPickW.map (Proc.devRef (τ := τ) .tc)).toFinset :=
  forall_writes_sub_of_map rfl

/-- The buffers that `opsLoss` writes. -/
abbrev opsLossW : List (Ref sig .tc) :=
  [main_v111, main_v112, main_v113, main_v114, main_v115, main_v116, main_v117, main_v118, main_v119, main_v120, main_cst_7, main_v121, main_v122, main_v123, main_v124, main_v125, main_v126, main_v127, main_v128, main_cst_8, main_v129, main_v130, main_v131, main_v132, main_v133, main_v134, main_v135, main_v136, main_cst_9, main_v137, main_v138, main_cst_10, main_v139, main_v140, main_cst_11, main_v141, main_v142, main_v143, main_v144]

/-- `opsLoss` writes those buffers and no other. -/
theorem opsLoss_writes : (opsLoss : List (HloOp τ sig (Elt F))).Forall fun op => op.writes ⊆ (opsLossW.map (Proc.devRef (τ := τ) .tc)).toFinset :=
  forall_writes_sub_of_map rfl

/-- The whole of the reference, in order. -/
def ops : List (HloOp τ sig (Elt F)) :=
  (opsCells ++ (opsTakeP ++ (opsTakeT ++ (opsNoObj ++ opsBoxes)))) ++
  ((opsInter ++ (opsIou ++ opsPick)) ++ opsLoss)

set_option maxHeartbeats 4000000 in
/-- The first stretch of the program runs its lists. -/
theorem main_part0_eq (c : Dev nD) : main_part0 (F := F) c = seq (opsCells ++ (opsTakeP ++ (opsTakeT ++ (opsNoObj ++ opsBoxes)))) := rfl

set_option maxHeartbeats 4000000 in
/-- The second stretch of the program runs its lists. -/
theorem main_part1_eq (c : Dev nD) : main_part1 (F := F) c = seq (opsInter ++ (opsIou ++ opsPick)) := rfl

set_option maxHeartbeats 4000000 in
/-- The third stretch of the program runs its lists. -/
theorem main_part2_eq (c : Dev nD) : main_part2 (F := F) c = seq opsLoss := rfl

/-- The program runs its operations in order. -/
theorem main_eq (c : Dev nD) : main (F := F) c = seq ops := by
  simp only [ops, seq_append (opsCells ++ _), seq_append (opsInter ++ _) opsLoss, ← main_part0_eq c, ← main_part1_eq c, ← main_part2_eq c]
  rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxHeartbeats 4000000 in
/-- Every operation works on the TensorCore's buffers. -/
theorem ops_sub : (ops : List (HloOp τ sig (Elt F))).Forall fun op => op.bufs ⊆ tcRefs τ sig := by
  simp only [ops, List.forall_append, opsCells, opsTakeP, opsTakeT, opsNoObj, opsBoxes, opsInter, opsIou, opsPick, opsLoss,
    List.Forall, TRef.nullary, TRef.unary, TRef.binary, TRef.ternary, TRef.quaternary, nullary_bufs_sub, unary_bufs_sub,
    binary_bufs_sub, ternary_bufs_sub, quaternary_bufs_sub, reshape_bufs_sub, and_self]

/-- No operation leaves an unwritten buffer behind. -/
theorem ops_fresh : ∀ op ∈ (ops : List (HloOp τ sig (Elt F))), op.fresh = ∅ :=
  List.forall_iff_forall_mem.mp (forall_fresh_of_map rfl)

end Cert.ReferenceIdeal.Steps

end
-- ==== Proof.RefRun.lean ====
module

public import proofs.«01_k».proof.Proof.RefOps

/-! The reference's run, read step by step: every step of the loss is a function of the arrays before it,
    and the program ends with the composition of the steps in its result buffer. -/

@[expose] public section

set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The target's cells, image by image. -/
def grid (t : Arr F S16384x7x7x30 .f32) : Arr F S16384x49x30 .f32 :=
  shapeCast _ t shapeCasts_S16384x7x7x30_S16384x49x30

/-- The cells of all images as rows of thirty elements. -/
def rows (x : Arr F S16384x49x30 .f32) : Arr F S802816x30 .f32 :=
  shapeCast _ x shapeCasts_S16384x49x30_S802816x30

/-- The prediction's cells, image by image. -/
def gridP (p : Arr F S16384x1470 .f32) : Arr F S16384x49x30 .f32 :=
  shapeCast _ p shapeCasts_S16384x1470_S16384x49x30

/-- The sixth element of every target cell. -/
def sixth (x : Arr F S16384x49x30 .f32) : Arr F S16384x49 .f32 :=
  shapeCast _ (extractStridedSlice S16384x49x1 ![0, 0, 5] x slices_S16384x49x30_S16384x49x1_0_0_5) shapeCasts_S16384x49x1_S16384x49

/-- Zero, image by image and cell by cell. -/
def zeros : Arr F S16384x49 .f32 :=
  broadcastInDim S16384x49 ![] bcast_S_S16384x49 (constant S_ .f32 0x00000000#32)

/-- One for a cell that holds an object, zero for every other. -/
def objMask (x : Arr F S16384x49x30 .f32) : Arr F S802816 .f32 :=
  shapeCast _ (uitofp .f32 (cmpf .ogt (sixth x) zeros)) shapeCasts_S16384x49_S802816

/-- One for a cell that holds no object, zero for every other. -/
def noObjMask (x : Arr F S16384x49x30 .f32) : Arr F S802816 .f32 :=
  shapeCast _ (uitofp .f32 (cmpf .oeq (sixth x) zeros)) shapeCasts_S16384x49_S802816

/-- The twenty class columns of the cells. -/
def classCols (x : Arr F S802816x30 .f32) : Arr F S802816x20 .f32 :=
  extractStridedSlice S802816x20 ![0, 10] x slices_S802816x30_S802816x20_0_10

/-- The square of the difference. -/
def sqDiff {S : Shape} (x y : FVec F S .f32) : FVec F S .f32 := mulf (subf x y) (subf x y)

/-- The class term: over the cells with an object, the squared differences of the class columns. -/
def classTerm (w : Arr F S802816 .f32) (x y : Arr F S802816x30 .f32) : Arr F S_ .f32 :=
  Host.reduceAdd (mulf w (Host.reduceAdd (sqDiff (classCols x) (classCols y)) (constant S_ .f32 0x00000000#32) reducesTo_S802816x20_S802816_d1 h_S_))
    (constant S_ .f32 0x00000000#32) reducesTo_S802816_S_d0 h_S_

/-- The two columns' numbers, those below zero counted from the end. -/
def colNumbers (c : Arr F S2 .i32) : Arr F S2x1 .i32 :=
  broadcastInDim S2x1 ![0] bcast_S2_S2x1_0 (select (cmpi .slt c (broadcastInDim S2 ![] bcast_S_S2 (constantI S_ 32 0#32)))
    (addi c (broadcastInDim S2 ![] bcast_S_S2 (constantI S_ 32 30#32))) c)

/-- Whether the columns' numbers name columns of the cells. -/
def colsInside (d : Arr F S2x1 .i32) : Arr F S2 .i1 :=
  Host.reduce IntOp.andi (andi (cmpi .sge d (broadcastInDim S2x1 ![] bcast_S_S2x1 (constantI S_ 32 0#32)))
    (cmpi .sle d (broadcastInDim S2x1 ![0, 1] bcast_S1x1_S2x1_0_1 (broadcastInDim S1x1 ![1] bcast_S1_S1x1_1 (constantI S1 32 29#32)))))
    (constantI S_ 1 1#1) reducesTo_S2x1_S2_d1 h_S_

/-- The named columns of the cells. -/
def takeCols (c : Arr F S2 .i32) (x : Arr F S802816x30 .f32) : Arr F S802816x2 .f32 :=
  select (broadcastInDim S802816x2 ![1] bcast_S2_S802816x2_1 (colsInside (F := F) (colNumbers (F := F) c)))
    (Host.gather gather_S802816x30_S2x1_S802816x2_0_1_n_n_1_1_8028161 x (colNumbers (F := F) c))
    (broadcastInDim S802816x2 ![] bcast_S_S802816x2 (constant S_ .f32 0x7FC00000#32))

/-- The confidences' columns, four and nine. -/
def confCols : Arr F S2 .i32 := fun i => lit0 (S2.rowMajor i)

/-- The no-object term: over the cells without an object, the squared differences of the confidences. -/
def noObjTerm (w : Arr F S802816 .f32) (x y : Arr F S802816x2 .f32) : Arr F S_ .f32 :=
  Host.reduceAdd (mulf w (Host.reduceAdd (sqDiff x y) (constant S_ .f32 0x00000000#32) reducesTo_S802816x2_S802816_d1 h_S_))
    (constant S_ .f32 0x00000000#32) reducesTo_S802816_S_d0 h_S_

/-- The two boxes of every cell, five elements each. -/
def boxes (x : Arr F S802816x30 .f32) : Arr F S802816x2x5 .f32 :=
  shapeCast _ (extractStridedSlice S802816x10 ![0, 0] x slices_S802816x30_S802816x10_0_0) shapeCasts_S802816x10_S802816x2x5

/-- The centres of the boxes. -/
def centres (b : Arr F S802816x2x5 .f32) : Arr F S802816x2x2 .f32 :=
  extractStridedSlice S802816x2x2 ![0, 0, 0] b slices_S802816x2x5_S802816x2x2_0_0_0

/-- The widths and heights of the boxes. -/
def extents (b : Arr F S802816x2x5 .f32) : Arr F S802816x2x2 .f32 :=
  extractStridedSlice S802816x2x2 ![0, 0, 2] b slices_S802816x2x5_S802816x2x2_0_0_2

/-- The confidences of the boxes. -/
def confs (b : Arr F S802816x2x5 .f32) : Arr F S802816x2 .f32 :=
  shapeCast _ (extractStridedSlice S802816x2x1 ![0, 0, 4] b slices_S802816x2x5_S802816x2x1_0_0_4) shapeCasts_S802816x2x1_S802816x2

/-- The corners of the boxes: the centre less the squared extents, and the centre plus them. -/
def cornersOf (b : Arr F S802816x2x5 .f32) : Arr F S802816x2x4 .f32 :=
  corners (subf (centres b) (mulf (extents b) (extents b))) (addf (centres b) (mulf (extents b) (extents b)))

/-- The lower corners. -/
def lower (b : Arr F S802816x2x4 .f32) : Arr F S802816x2x2 .f32 :=
  extractStridedSlice S802816x2x2 ![0, 0, 0] b slices_S802816x2x4_S802816x2x2_0_0_0

/-- The upper corners. -/
def upper (b : Arr F S802816x2x4 .f32) : Arr F S802816x2x2 .f32 :=
  extractStridedSlice S802816x2x2 ![0, 0, 2] b slices_S802816x2x4_S802816x2x2_0_0_2

/-- A predicted box's corner against each of the target's boxes. -/
def alongFirst (x : Arr F S802816x2x2 .f32) : Arr F S802816x2x2x2 .f32 :=
  broadcastInDim S802816x2x2x2 ![0, 1, 2, 3] bcast_S802816x2x1x2_S802816x2x2x2_0_1_2_3
    (broadcastInDim S802816x2x1x2 ![0, 1, 3] bcast_S802816x2x2_S802816x2x1x2_0_1_3 x)

/-- A target box's corner against each of the predicted boxes. -/
def alongSecond (x : Arr F S802816x2x2 .f32) : Arr F S802816x2x2x2 .f32 :=
  broadcastInDim S802816x2x2x2 ![0, 1, 2, 3] bcast_S802816x1x2x2_S802816x2x2x2_0_1_2_3
    (broadcastInDim S802816x1x2x2 ![0, 2, 3] bcast_S802816x2x2_S802816x1x2x2_0_2_3 x)

/-- The width and height of every intersection, not below zero. -/
def overlap (l a b : Arr F S802816x2x2 .f32) (c : Arr F S802816x2x2 .f32) : Arr F S802816x2x2x2 .f32 :=
  maximumf (broadcastInDim S802816x2x2x2 ![] bcast_S_S802816x2x2x2 (id (constant S_ .f32 0x00000000#32)))
    (subf (minimumf (alongFirst a) (alongSecond b)) (maximumf (alongFirst l) (alongSecond c)))

/-- The areas of the intersections. -/
def interOf (o : Arr F S802816x2x2x2 .f32) : Arr F S802816x2x2 .f32 :=
  mulf (shapeCast _ (extractStridedSlice S802816x2x2x1 ![0, 0, 0, 0] o slices_S802816x2x2x2_S802816x2x2x1_0_0_0_0) shapeCasts_S802816x2x2x1_S802816x2x2)
    (shapeCast _ (extractStridedSlice S802816x2x2x1 ![0, 0, 0, 1] o slices_S802816x2x2x2_S802816x2x2x1_0_0_0_1) shapeCasts_S802816x2x2x1_S802816x2x2)

/-- The areas of the boxes. -/
def areas (b : Arr F S802816x2x4 .f32) : Arr F S802816x2 .f32 :=
  mulf (subf (shapeCast _ (extractStridedSlice S802816x2x1 ![0, 0, 2] b slices_S802816x2x4_S802816x2x1_0_0_2) shapeCasts_S802816x2x1_S802816x2)
      (shapeCast _ (extractStridedSlice S802816x2x1 ![0, 0, 0] b slices_S802816x2x4_S802816x2x1_0_0_0) shapeCasts_S802816x2x1_S802816x2))
    (subf (shapeCast _ (extractStridedSlice S802816x2x1 ![0, 0, 3] b slices_S802816x2x4_S802816x2x1_0_0_3) shapeCasts_S802816x2x1_S802816x2)
      (shapeCast _ (extractStridedSlice S802816x2x1 ![0, 0, 1] b slices_S802816x2x4_S802816x2x1_0_0_1) shapeCasts_S802816x2x1_S802816x2))

/-- The intersections over the unions. -/
def iouOf (i : Arr F S802816x2x2 .f32) (a b : Arr F S802816x2x4 .f32) : Arr F S802816x2x2 .f32 :=
  Host.divf i (subf (addf
    (broadcastInDim S802816x2x2 ![0, 1, 2] bcast_S802816x2x1_S802816x2x2_0_1_2 (broadcastInDim S802816x2x1 ![0, 1] bcast_S802816x2_S802816x2x1_0_1 (areas a)))
    (broadcastInDim S802816x2x2 ![0, 1, 2] bcast_S802816x1x2_S802816x2x2_0_1_2 (broadcastInDim S802816x1x2 ![0, 2] bcast_S802816x2_S802816x1x2_0_2 (areas b)))) i)

/-- For every target box the predicted box of the largest intersection over union. -/
def bestBox (i : Arr F S802816x2x2 .f32) : Arr F S802816x2 .i32 :=
  topIndex i (iotaInDim S802816x2x2 32 1) (constant S_ .f32 0xFF800000#32) (constantI S_ 32 0#32)

/-- One for a predicted box that some target box has chosen, zero for every other. -/
def chosen (k : Arr F S802816x2 .i32) : Arr F S802816x2 .f32 :=
  uitofp .f32 (Host.reduce IntOp.ori
    (cmpi .eq (broadcastInDim S802816x2x2 ![0, 1, 2] bcast_S802816x2x1_S802816x2x2_0_1_2 (broadcastInDim S802816x2x1 ![0, 1] bcast_S802816x2_S802816x2x1_0_1 k))
      (broadcastInDim S802816x2x2 ![0, 1, 2] bcast_S1x1x2_S802816x2x2_0_1_2 (broadcastInDim S1x1x2 ![2] bcast_S2_S1x1x2_2 (iotaInDim S2 32 0))))
    (constantI S_ 1 0#1) reducesTo_S802816x2x2_S802816x2_d1 h_S_)

/-- The weights of the boxes: one for a chosen box in a cell with an object. -/
def weights (w : Arr F S802816 .f32) (r : Arr F S802816x2 .f32) : Arr F S802816x2 .f32 :=
  mulf (broadcastInDim S802816x2 ![0, 1] bcast_S802816x1_S802816x2_0_1 (broadcastInDim S802816x1 ![0] bcast_S802816_S802816x1_0 w)) r

/-- A pair's weighted squared differences, summed over all boxes. -/
def pairTerm (w : Arr F S802816x2 .f32) (x y : Arr F S802816x2x2 .f32) : Arr F S_ .f32 :=
  Host.reduceAdd (mulf (broadcastInDim S802816x2x2 ![0, 1, 2] bcast_S802816x2x1_S802816x2x2_0_1_2 (broadcastInDim S802816x2x1 ![0, 1] bcast_S802816x2_S802816x2x1_0_1 w))
    (sqDiff x y)) (constant S_ .f32 0x00000000#32) reducesTo_S802816x2x2_S_d0_1_2 h_S_

/-- The confidences' weighted squared differences, summed over all boxes. -/
def confTerm (w x y : Arr F S802816x2 .f32) : Arr F S_ .f32 :=
  Host.reduceAdd (mulf w (sqDiff x y)) (constant S_ .f32 0x00000000#32) reducesTo_S802816x2_S_d0_1 h_S_

/-- The weighted total of the terms. -/
def total (w : Arr F S802816x2 .f32) (b b' : Arr F S802816x2x5 .f32) (n c : Arr F S_ .f32) : Arr F S1x1 .f32 :=
  shapeCast _ (addf (addf (addf
    (mulf (constant S_ .f32 0x40A00000#32) (addf (pairTerm w (centres b) (centres b')) (pairTerm w (extents b) (extents b'))))
    (confTerm w (confs b) (confs b')))
    (mulf (constant S_ .f32 0x3F000000#32) n)) c) shapeCasts_S_S1x1

/-- The rows of the prediction's cells. -/
def rowsP (p : Arr F S16384x1470 .f32) : Arr F S802816x30 .f32 := rows (gridP p)

/-- The rows of the target's cells. -/
def rowsT (t : Arr F S16384x7x7x30 .f32) : Arr F S802816x30 .f32 := rows (grid t)

/-- The intersections over the unions of two arrays of boxes. -/
def iouBoxes (b b' : Arr F S802816x2x5 .f32) : Arr F S802816x2x2 .f32 :=
  iouOf (interOf (overlap (lower (cornersOf b)) (upper (cornersOf b)) (upper (cornersOf b')) (lower (cornersOf b')))) (cornersOf b) (cornersOf b')

/-- The loss of a prediction against a target. -/
def loss (p : Arr F S16384x1470 .f32) (t : Arr F S16384x7x7x30 .f32) : Arr F S1x1 .f32 :=
  total (weights (objMask (grid t)) (chosen (F := F) (bestBox (iouBoxes (boxes (rowsP p)) (boxes (rowsT t))))))
    (boxes (rowsP p)) (boxes (rowsT t))
    (noObjTerm (noObjMask (grid t)) (takeCols confCols (rowsP p)) (takeCols confCols (rowsT t)))
    (classTerm (objMask (grid t)) (rowsP p) (rowsT t))

section
variable (V : Valuation τ sig (Elt F))

set_option maxHeartbeats 2000000

/-- The rows of the prediction after the first step. -/
theorem cells_v15 : after opsCells V (no_index (Proc.devRef .tc main_v15)) = rowsP (V (Proc.devRef .tc main_arg0)) := by
  unfold opsCells; after_results_simp; rfl
/-- The rows of the target after the first step. -/
theorem cells_v14 : after opsCells V (no_index (Proc.devRef .tc main_v14)) = rowsT (V (Proc.devRef .tc main_arg1)) := by
  unfold opsCells; after_results_simp; rfl
/-- The object mask after the first step. -/
theorem cells_v7 : after opsCells V (no_index (Proc.devRef .tc main_v7)) = objMask (grid (V (Proc.devRef .tc main_arg1))) := by
  unfold opsCells; after_results_simp; rfl
/-- The no-object mask after the first step. -/
theorem cells_v13 : after opsCells V (no_index (Proc.devRef .tc main_v13)) = noObjMask (grid (V (Proc.devRef .tc main_arg1))) := by
  unfold opsCells; after_results_simp; rfl
/-- The class term after the first step. -/
theorem cells_v22 : after opsCells V (no_index (Proc.devRef .tc main_v22))
    = classTerm (objMask (grid (V (Proc.devRef .tc main_arg1)))) (rowsP (V (Proc.devRef .tc main_arg0))) (rowsT (V (Proc.devRef .tc main_arg1))) := by
  unfold opsCells; after_results_simp; rfl
/-- The confidences' column numbers after the first step. -/
theorem cells_c : after opsCells V (no_index (Proc.devRef .tc main_c)) = confCols (F := F) := by
  unfold opsCells; after_results_simp; rfl
/-- The prediction's confidences. -/
theorem takeP_v23 : after opsTakeP V (no_index (Proc.devRef .tc main_v23)) = takeCols (V (Proc.devRef .tc main_c)) (V (Proc.devRef .tc main_v15)) := by
  unfold opsTakeP; simp only [TRef.nullary, TRef.unary, TRef.binary, TRef.ternary, TRef.toBuf, TRef.ofBuf, cast_eq]
  after_results_simp; rfl
/-- The target's confidences. -/
theorem takeT_v24 : after opsTakeT V (no_index (Proc.devRef .tc main_v24)) = takeCols (V (Proc.devRef .tc main_c)) (V (Proc.devRef .tc main_v14)) := by
  unfold opsTakeT; simp only [TRef.nullary, TRef.unary, TRef.binary, TRef.ternary, TRef.toBuf, TRef.ofBuf, cast_eq]
  after_results_simp; rfl
/-- The no-object term. -/
theorem noObj_v29 : after opsNoObj V (no_index (Proc.devRef .tc main_v29))
    = noObjTerm (V (Proc.devRef .tc main_v13)) (V (Proc.devRef .tc main_v23)) (V (Proc.devRef .tc main_v24)) := by
  unfold opsNoObj; after_results_simp; rfl
/-- The predicted boxes. -/
theorem boxes_v31 : after opsBoxes V (no_index (Proc.devRef .tc main_v31)) = boxes (V (Proc.devRef .tc main_v15)) := by
  unfold opsBoxes; after_results_simp; rfl
/-- The target's boxes. -/
theorem boxes_v33 : after opsBoxes V (no_index (Proc.devRef .tc main_v33)) = boxes (V (Proc.devRef .tc main_v14)) := by
  unfold opsBoxes; after_results_simp; rfl
/-- The predicted boxes' corners. -/
theorem boxes_v50 : after opsBoxes V (no_index (Proc.devRef .tc main_v50)) = cornersOf (boxes (V (Proc.devRef .tc main_v15))) := by
  unfold opsBoxes; after_results_simp; rfl
/-- The target's boxes' corners. -/
theorem boxes_v51 : after opsBoxes V (no_index (Proc.devRef .tc main_v51)) = cornersOf (boxes (V (Proc.devRef .tc main_v14))) := by
  unfold opsBoxes; after_results_simp; rfl
/-- The predicted boxes' lower corners. -/
theorem boxes_v52 : after opsBoxes V (no_index (Proc.devRef .tc main_v52)) = lower (cornersOf (boxes (V (Proc.devRef .tc main_v15)))) := by
  unfold opsBoxes; after_results_simp; rfl
/-- The areas of the intersections. -/
theorem inter_v72 : after opsInter V (no_index (Proc.devRef .tc main_v72))
    = interOf (overlap (V (Proc.devRef .tc main_v52)) (upper (V (Proc.devRef .tc main_v50))) (upper (V (Proc.devRef .tc main_v51))) (lower (V (Proc.devRef .tc main_v51)))) := by
  unfold opsInter; simp only [TRef.unary, TRef.binary, TRef.toBuf, TRef.ofBuf, cast_eq]
  after_results_simp; rfl
/-- The intersections over the unions. -/
theorem iou_v101 : after opsIou V (no_index (Proc.devRef .tc main_v101))
    = iouOf (V (Proc.devRef .tc main_v72)) (V (Proc.devRef .tc main_v50)) (V (Proc.devRef .tc main_v51)) := by
  unfold opsIou; after_results_simp; rfl
/-- The chosen boxes. -/
theorem pick_v110 : after opsPick V (no_index (Proc.devRef .tc main_v110)) = chosen (F := F) (bestBox (V (Proc.devRef .tc main_v101))) := by
  unfold opsPick; simp only [TRef.nullary, TRef.quaternary, TRef.toBuf, TRef.ofBuf, cast_eq]
  after_results_simp; rfl
/-- The weighted total. -/
theorem loss_v144 : after opsLoss V (no_index (Proc.devRef .tc main_v144))
    = total (weights (V (Proc.devRef .tc main_v7)) (V (Proc.devRef .tc main_v110))) (V (Proc.devRef .tc main_v31)) (V (Proc.devRef .tc main_v33))
        (V (Proc.devRef .tc main_v29)) (V (Proc.devRef .tc main_v22)) := by
  unfold opsLoss; after_results_simp; rfl

/-- `opsCells` keeps every buffer that it does not write. -/
theorem keepCells (r : Ref sig .tc) (h : r ∉ opsCellsW) : after opsCells V (no_index (Proc.devRef .tc r)) = V (Proc.devRef .tc r) :=
  after_of_writes_sub opsCells V opsCells_writes h
/-- `opsTakeP` keeps every buffer that it does not write. -/
theorem keepTakeP (r : Ref sig .tc) (h : r ∉ opsTakePW) : after opsTakeP V (no_index (Proc.devRef .tc r)) = V (Proc.devRef .tc r) :=
  after_of_writes_sub opsTakeP V opsTakeP_writes h
/-- `opsTakeT` keeps every buffer that it does not write. -/
theorem keepTakeT (r : Ref sig .tc) (h : r ∉ opsTakeTW) : after opsTakeT V (no_index (Proc.devRef .tc r)) = V (Proc.devRef .tc r) :=
  after_of_writes_sub opsTakeT V opsTakeT_writes h
/-- `opsNoObj` keeps every buffer that it does not write. -/
theorem keepNoObj (r : Ref sig .tc) (h : r ∉ opsNoObjW) : after opsNoObj V (no_index (Proc.devRef .tc r)) = V (Proc.devRef .tc r) :=
  after_of_writes_sub opsNoObj V opsNoObj_writes h
/-- `opsBoxes` keeps every buffer that it does not write. -/
theorem keepBoxes (r : Ref sig .tc) (h : r ∉ opsBoxesW) : after opsBoxes V (no_index (Proc.devRef .tc r)) = V (Proc.devRef .tc r) :=
  after_of_writes_sub opsBoxes V opsBoxes_writes h
/-- `opsInter` keeps every buffer that it does not write. -/
theorem keepInter (r : Ref sig .tc) (h : r ∉ opsInterW) : after opsInter V (no_index (Proc.devRef .tc r)) = V (Proc.devRef .tc r) :=
  after_of_writes_sub opsInter V opsInter_writes h
/-- `opsIou` keeps every buffer that it does not write. -/
theorem keepIou (r : Ref sig .tc) (h : r ∉ opsIouW) : after opsIou V (no_index (Proc.devRef .tc r)) = V (Proc.devRef .tc r) :=
  after_of_writes_sub opsIou V opsIou_writes h
/-- `opsPick` keeps every buffer that it does not write. -/
theorem keepPick (r : Ref sig .tc) (h : r ∉ opsPickW) : after opsPick V (no_index (Proc.devRef .tc r)) = V (Proc.devRef .tc r) :=
  after_of_writes_sub opsPick V opsPick_writes h
/-- `opsLoss` keeps every buffer that it does not write. -/
theorem keepLoss (r : Ref sig .tc) (h : r ∉ opsLossW) : after opsLoss V (no_index (Proc.devRef .tc r)) = V (Proc.devRef .tc r) :=
  after_of_writes_sub opsLoss V opsLoss_writes h

/-- The whole of the reference leaves the loss of its arguments in the result's buffer. -/
theorem ops_v144 : after ops V (Proc.devRef .tc main_v144) = loss (V (Proc.devRef .tc main_arg0)) (V (Proc.devRef .tc main_arg1)) := by
  unfold ops
  simp (disch := decide) only [after_append, loss_v144, pick_v110, iou_v101, inter_v72, boxes_v31, boxes_v33, boxes_v50, boxes_v51,
    boxes_v52, noObj_v29, takeP_v23, takeT_v24, cells_v7, cells_v13, cells_v14, cells_v15, cells_v22, cells_c,
    keepCells, keepTakeP, keepTakeT, keepNoObj, keepBoxes, keepInter, keepIou, keepPick]
  rfl

/-- The reference keeps its first argument. -/
theorem ops_arg0 : after ops V (Proc.devRef .tc main_arg0) = V (Proc.devRef .tc main_arg0) := by
  unfold ops
  simp (disch := decide) only [after_append, keepCells, keepTakeP, keepTakeT, keepNoObj, keepBoxes, keepInter, keepIou, keepPick, keepLoss]

/-- The reference keeps its second argument. -/
theorem ops_arg1 : after ops V (Proc.devRef .tc main_arg1) = V (Proc.devRef .tc main_arg1) := by
  unfold ops
  simp (disch := decide) only [after_append, keepCells, keepTakeP, keepTakeT, keepNoObj, keepBoxes, keepInter, keepIou, keepPick, keepLoss]

end

/-- From any memory with zero counters the reference ends with the loss of its arguments in the result's buffer,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144)
          = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v144).trans (ops_v144 (launchContents m c)),
      (h c main_arg0).trans (ops_arg0 (launchContents m c)), (h c main_arg1).trans (ops_arg1 (launchContents m c))⟩)
    (run_seq scopedRefs_eq scopedSems_eq defs main (fun _ => ops) main_eq (fun _ => ops_sub) m ρ fun _ => ops_fresh)

end Cert.ReferenceIdeal.Steps

end
-- ==== Proof.RefValue.lean ====
module

public import proofs.«01_k».proof.Proof.RefRun
public import proofs.«01_k».proof.Proof.CellMath
public import Idealize.ShloMosaic.Lib.Pointwise

/-! The reference's arg-max and its gather, read at an element over the extended reals. -/

@[expose] public section

set_option maxRecDepth 16384

noncomputable section

namespace Cert.ReferenceIdeal.Steps

open Cert.ReferenceIdeal Cert.ReferenceIdeal.Gen Cert.Cell Idealize.ShloMosaic Idealize.ShloMosaic.TcCoe Idealize.SL.Sem Idealize.ShloMosaic.StableHlo

/-- The row-major places that an arg-max over the middle axis folds: the first place before the second. -/
theorem fibre_pair {N : Nat} (h : (⟨3, ![N, 2, 2]⟩ : Shape).ReducesTo [1] ⟨2, ![N, 2]⟩) (n : Fin N) (b : Fin 2) :
    ((List.finRange (⟨3, ![N, 2, 2]⟩ : Shape).numel).filter fun k =>
        decide (h.drop ((⟨3, ![N, 2, 2]⟩ : Shape).rowMajor.symm k) = ix2 n b))
      = [(⟨3, ![N, 2, 2]⟩ : Shape).rowMajor (ix3 n 0 b), (⟨3, ![N, 2, 2]⟩ : Shape).rowMajor (ix3 n 1 b)] := by
  have hlt : (⟨3, ![N, 2, 2]⟩ : Shape).rowMajor (ix3 n 0 b) < (⟨3, ![N, 2, 2]⟩ : Shape).rowMajor (ix3 n 1 b) := by
    rw [Fin.lt_def, Shape.rowMajor_val_three, Shape.rowMajor_val_three]
    show (n.val * 2 + 0) * 2 + b.val < (n.val * 2 + 1) * 2 + b.val
    omega
  refine List.Perm.eq_of_pairwise (le := (· ≤ ·)) (fun _ _ _ _ => le_antisymm)
    (((List.pairwise_lt_finRange _).imp le_of_lt).filter _) (by simpa using hlt.le) ?_
  refine (List.perm_ext_iff_of_nodup ((List.nodup_finRange _).filter _) (by simpa using hlt.ne)).2 fun k => ?_
  simp only [List.mem_filter, List.mem_finRange, true_and, decide_eq_true_eq, List.mem_cons, List.not_mem_nil, or_false]
  rw [Shape.ReducesTo.fiber_r3_a1 h (ix2 n b)]
  simp only [Equiv.eq_symm_apply, Fin.exists_fin_two]
  exact or_congr eq_comm eq_comm

/-- The arg-max's two steps: from nothing, over the first value, then over the second. -/
theorem argmax_two (u v : EReal) :
    (reducer_argmax_f32_i32 (F := Ideal) (reducer_argmax_f32_i32 (F := Ideal) ((⊥ : EReal), 0#32) (u, 0#32)) (v, 1#32)).2
      = if u < v then 1#32 else 0#32 := by
  have h1 : reducer_argmax_f32_i32 (F := Ideal) ((⊥ : EReal), 0#32) (u, 0#32) = (u, 0#32) := by
    simp [reducer_argmax_f32_i32, Ideal.cmpf_def, Ideal.cmp, Scalar.select, IntOp.ori, IntOp.andi, IntOp.cmpi]
  rw [h1]
  rcases lt_trichotomy u v with h | h | h
  · simp [reducer_argmax_f32_i32, Ideal.cmpf_def, Ideal.cmp, Scalar.select, IntOp.ori, IntOp.andi, IntOp.cmpi, h, h.ne, h.le, not_lt_of_gt h]
  · simp [reducer_argmax_f32_i32, Ideal.cmpf_def, Ideal.cmp, Scalar.select, IntOp.ori, IntOp.andi, IntOp.cmpi, h]
  · simp [reducer_argmax_f32_i32, Ideal.cmpf_def, Ideal.cmp, Scalar.select, IntOp.ori, IntOp.andi, IntOp.cmpi, h, h.ne', h.le, not_lt_of_gt h]

/-- An arg-max over the middle axis: the second place only where its value is larger. -/
theorem argmax_pair {N : Nat} (h : (⟨3, ![N, 2, 2]⟩ : Shape).ReducesTo [1] ⟨2, ![N, 2]⟩) (x : FVec Ideal ⟨3, ![N, 2, 2]⟩ .f32)
    (u : FVec Ideal S_ .f32) (v : IVec S_ 32) (hu : u (Shape.Idx.first h_S_) = (⊥ : EReal)) (hv : v (Shape.Idx.first h_S_) = 0#32)
    (n : Fin N) (b : Fin 2) :
    (Host.argReduce (reducer_argmax_f32_i32 (F := Ideal)) x (iotaInDim ⟨3, ![N, 2, 2]⟩ 32 1) u v h h_S_ (ix2 n b)).2
      = if x (ix3 n 0 b) < x (ix3 n 1 b) then 1#32 else 0#32 := by
  rw [Ideal.argReduce_eq_reduce2, Host.reduce2_eq_foldl_fiber, Host.argReduceFiber, fibre_pair]
  simp only [List.map_cons, List.map_nil, List.foldl_cons, List.foldl_nil, Equiv.symm_apply_apply, hu, hv]
  exact argmax_two _ _

/-- The arg-max's indices, read off its pairs. -/
theorem topIndex_def {F : FTy → Type} [FloatOps F] (x : Arr F S802816x2x2 .f32) (y : Arr F S802816x2x2 .i32) (u : Arr F S_ .f32)
    (v : Arr F S_ .i32) :
    topIndex x y u v = fun j => (Host.argReduce reducer_argmax_f32_i32 x y u v reducesTo_S802816x2x2_S802816x2_d1 h_S_ j).2 := rfl

/-- The arg-max over the predicted boxes, of any start: the second box only where its value is larger. -/
theorem topIndex_ideal (x : FVec Ideal S802816x2x2 .f32) (u : FVec Ideal S_ .f32) (v : IVec S_ 32)
    (hu : u (Shape.Idx.first h_S_) = (⊥ : EReal)) (hv : v (Shape.Idx.first h_S_) = 0#32) (n : Fin 802816) (b : Fin 2) :
    topIndex (F := Ideal) x (iotaInDim S802816x2x2 32 1) u v (ix2 n b) = if x (ix3 n 0 b) < x (ix3 n 1 b) then 1#32 else 0#32 := by
  rw [topIndex_def]
  exact argmax_pair (N := 802816) reducesTo_S802816x2x2_S802816x2_d1 x u v hu hv n b

/-- The gather of two columns, each at its number read off the list. -/
theorem gather_apply (x : FVec Ideal S802816x30 .f32) (d : IVec S2x1 32) (n : Fin 802816) (b : Fin 2) :
    Host.gather gather_S802816x30_S2x1_S802816x2_0_1_n_n_1_1_8028161 x d (ix2 n b)
      = x (ix2 n ⟨min (d (ix2 b 0)).toInt.toNat 29, by omega⟩) := by
  unfold Host.gather
  congr 1
  funext a
  refine Fin.ext ?_
  show GatherDims.start _ _ _ a + GatherDims.batchCoord _ _ a + GatherDims.offCoord _ _ a = _
  rw [GatherDims.batchCoord_eq_zero _ _ _ (fun h => by simp [gather_S802816x30_S2x1_S802816x2_0_1_n_n_1_1_8028161] at h)]
  have h01 : a = (0 : Fin 2) ∨ a = (1 : Fin 2) := by
    match a with
    | ⟨0, _⟩ => exact Or.inl rfl
    | ⟨1, _⟩ => exact Or.inr rfl
  unfold GatherDims.start
  rcases h01 with rfl | rfl
  · rw [dif_neg (show (0 : Fin 2) ∉ gather_S802816x30_S2x1_S802816x2_0_1_n_n_1_1_8028161.startIndexMap by decide)]
    simp only [Nat.zero_add]
    rfl
  · rw [GatherDims.offCoord_eq_zero _ _ _ (fun h => ((GatherDims.mem_sKept _ _).mp h).1 (List.mem_singleton.mpr rfl)),
      dif_pos (show (1 : Fin 2) ∈ gather_S802816x30_S2x1_S802816x2_0_1_n_n_1_1_8028161.startIndexMap by decide)]
    have hsi : gather_S802816x30_S2x1_S802816x2_0_1_n_n_1_1_8028161.siIdx (ix2 n b) ⟨List.idxOf (1 : Fin 2) [(1 : Fin 2)],
        List.idxOf_lt_length_iff.2 (List.mem_singleton.mpr rfl)⟩ = ix2 b 0 := by
      funext b; refine Fin.ext ?_
      match b with
      | ⟨0, _⟩ => rfl
      | ⟨1, _⟩ => rfl
    simp only [Nat.add_zero]
    erw [hsi]
    rfl

end Cert.ReferenceIdeal.Steps

end
-- ==== Proof.RefCells.lean ====
module

public import proofs.«01_k».proof.Proof.RefValue
public import proofs.«01_k».proof.Proof.CellMath
public import Idealize.ShloMosaic.Lib.Pointwise

/-! The reference's loss over the extended reals: the sum over all cells of the cell's share. -/

@[expose] public section

set_option maxRecDepth 16384

noncomputable section

namespace Cert.ReferenceIdeal.Steps

open Cert.ReferenceIdeal Cert.ReferenceIdeal.Gen Cert.Cell Idealize.ShloMosaic Idealize.ShloMosaic.TcCoe Idealize.SL.Sem Idealize.ShloMosaic.StableHlo

/-- A bit read as a number. -/
theorem uitofp_bit (b : Bool) : FloatOps.uitofp (F := Ideal) .f32 (BitVec.ofBool b) = bit b := by
  show ((((BitVec.ofBool b).toNat : ℕ) : ℝ) : EReal) = bit b
  cases b <;> simp [bit]

/-- A fold over two places. -/
theorem fold_two {α : Type} (op : α → α → α) [Std.Commutative op] [Std.Associative op] (z : α) (f : Fin 2 → α) :
    Finset.univ.fold op z f = op (f 0) (op (f 1) z) := by
  rw [show (Finset.univ : Finset (Fin 2)) = insert 0 {1} from rfl, Finset.fold_insert (by decide), Finset.fold_singleton]

/-- The elements of the prediction's cell `n`. -/
def cellP (p : FVec Ideal S16384x1470 .f32) (n : Fin 802816) (e : Fin 30) : EReal := rowsP (F := Ideal) p (ix2 n e)

/-- The elements of the target's cell `n`. -/
def cellT (t : FVec Ideal S16384x7x7x30 .f32) (n : Fin 802816) (e : Fin 30) : EReal := rowsT (F := Ideal) t (ix2 n e)

/-- The object mask at a cell. -/
theorem objMask_apply (t : FVec Ideal S16384x7x7x30 .f32) (n : Fin 802816) :
    objMask (F := Ideal) (grid (F := Ideal) t) (ix1 n) = obj (cellT t n) := by
  pointwise [objMask, sixth, zeros, cellT, rowsT, rows, obj]
  exact uitofp_bit _

/-- The no-object mask at a cell. -/
theorem noObjMask_apply (t : FVec Ideal S16384x7x7x30 .f32) (n : Fin 802816) :
    noObjMask (F := Ideal) (grid (F := Ideal) t) (ix1 n) = noObj (cellT t n) := by
  pointwise [noObjMask, sixth, zeros, cellT, rowsT, rows, noObj]
  exact uitofp_bit _

/-- The columns' numbers. -/
theorem colNumbers_conf (b : Fin 2) : colNumbers (F := Ideal) (confCols (F := Ideal)) (ix2 b 0) = if b = 0 then 4#32 else 9#32 := by
  pointwise [colNumbers, confCols]
  have h0 : S2.rowMajor (ix1 0) = (0 : Fin 2) := Fin.ext (Shape.rowMajor_val_one _)
  have h1 : S2.rowMajor (ix1 1) = (1 : Fin 2) := Fin.ext (Shape.rowMajor_val_one _)
  revert b
  rw [Fin.forall_fin_two]
  erw [h0, h1]
  exact ⟨rfl, rfl⟩

/-- The confidences' columns hold the fifth element of each box. -/
theorem takeCols_apply (x : FVec Ideal S802816x30 .f32) (n : Fin 802816) (b : Fin 2) :
    takeCols (F := Ideal) (confCols (F := Ideal)) x (ix2 n b) = x (ix2 n (place b 4)) := by
  pointwise [takeCols, colsInside]
  have hx (k : Fin 1) : IntOp.andi (IntOp.cmpi CmpIPredicate.sge (colNumbers (F := Ideal) (confCols (F := Ideal)) (ix2 b k)) 0#32)
      (IntOp.cmpi CmpIPredicate.sle (colNumbers (F := Ideal) (confCols (F := Ideal)) (ix2 b k)) 29#32) = 1#1 := by
    obtain rfl := Subsingleton.elim k 0
    rw [colNumbers_conf]
    revert b
    decide
  simp only [hx, Finset.univ_unique, Finset.fold_singleton]
  have hc : (⟨min (colNumbers (F := Ideal) (confCols (F := Ideal)) (ix2 b 0)).toInt.toNat 29, by omega⟩ : Fin 30) = place b 4 := by
    refine Fin.ext ?_
    show min (colNumbers (F := Ideal) (confCols (F := Ideal)) (ix2 b 0)).toInt.toNat 29 = b.val * 5 + 4
    rw [colNumbers_conf]
    revert b
    decide
  rw [gather_apply, hc]
  rfl

/-- A box's element is the cell's element at its place. -/
theorem boxes_apply (x : FVec Ideal S802816x30 .f32) (n : Fin 802816) (b : Fin 2) (k : Fin 5) :
    boxes (F := Ideal) x (ix3 n b k) = x (ix2 n (place b k)) := by
  pointwise [boxes]
  rfl

/-- The intersections over the unions of a cell's boxes. -/
theorem iouBoxes_apply (x y : FVec Ideal S802816x2x5 .f32) (n : Fin 802816) (a b : Fin 2) :
    iouBoxes (F := Ideal) x y (ix3 n a b)
      = iou (x (ix3 n a 0)) (x (ix3 n a 1)) (x (ix3 n a 2)) (x (ix3 n a 3)) (y (ix3 n b 0)) (y (ix3 n b 1)) (y (ix3 n b 2)) (y (ix3 n b 3)) := by
  pointwise [iouBoxes, iouOf, interOf, overlap, lower, upper, cornersOf, areas, corners, centres, extents, alongFirst, alongSecond, id_eq, iou, inter]

/-- The chosen boxes, read off the two target boxes' choices. -/
theorem chosen_apply (k : IVec S802816x2 32) (n : Fin 802816) (b : Fin 2) :
    chosen (F := Ideal) k (ix2 n b)
      = bit (decide (k (ix2 n 0) = BitVec.ofNat 32 b.val) || decide (k (ix2 n 1) = BitVec.ofNat 32 b.val)) := by
  pointwise [chosen]
  rw [fold_two]
  have h (u v : BitVec 32) : IntOp.cmpi CmpIPredicate.eq u v = BitVec.ofBool (decide (u = v)) := by
    rw [show IntOp.cmpi CmpIPredicate.eq u v = BitVec.ofBool (u == v) from rfl, beq_eq_decide]
  have ho (u v : Bool) : IntOp.ori (BitVec.ofBool u) (IntOp.ori (BitVec.ofBool v) 0#1) = BitVec.ofBool (u || v) := by
    revert u v; decide
  rw [h, h, ho, uitofp_bit]

/-- The choices of a cell's boxes. -/
theorem choices_apply (p : FVec Ideal S16384x1470 .f32) (t : FVec Ideal S16384x7x7x30 .f32) (k : IVec S802816x2 32)
    (hk : ∀ n b, k (ix2 n b) = if second (cellP p n) (cellT t n) b then 1#32 else 0#32) (n : Fin 802816) (b : Fin 2) :
    chosen (F := Ideal) k (ix2 n b) = bit (picked (cellP p n) (cellT t n) b) := by
  rw [chosen_apply, hk, hk]
  unfold picked
  generalize second (cellP p n) (cellT t n) 0 = u
  generalize second (cellP p n) (cellT t n) 1 = v
  congr 1
  revert b u v
  decide

/-- The best predicted box of a target box. -/
theorem best_apply (p : FVec Ideal S16384x1470 .f32) (t : FVec Ideal S16384x7x7x30 .f32) (n : Fin 802816) (b : Fin 2) :
    bestBox (F := Ideal) (iouBoxes (F := Ideal) (boxes (F := Ideal) (rowsP (F := Ideal) p)) (boxes (F := Ideal) (rowsT (F := Ideal) t))) (ix2 n b)
      = if second (cellP p n) (cellT t n) b then 1#32 else 0#32 := by
  unfold bestBox
  rw [topIndex_ideal _ _ _ (by simp [Ideal.ofBits, Ideal.ieee, constant]) rfl]
  simp only [iouBoxes_apply, boxes_apply]
  unfold second iouAt
  simp only [decide_eq_true_eq]
  rfl

/-- The total, read off the weights, the boxes and the two other terms. -/
theorem total_apply (w : FVec Ideal S802816x2 .f32) (x y : FVec Ideal S802816x2x5 .f32) (u v : FVec Ideal S_ .f32) (i : S1x1.Idx) :
    total (F := Ideal) w x y u v i
      = five * ((∑ n, ∑ b, ∑ k : Fin 2, w (ix2 n b) * sqd (x (ix3 n b ⟨k.val, by omega⟩)) (y (ix3 n b ⟨k.val, by omega⟩)))
          + ∑ n, ∑ b, ∑ k : Fin 2, w (ix2 n b) * sqd (x (ix3 n b ⟨2 + k.val, by omega⟩)) (y (ix3 n b ⟨2 + k.val, by omega⟩)))
        + (∑ n, ∑ b, w (ix2 n b) * sqd (x (ix3 n b 4)) (y (ix3 n b 4))) + half * u ix0 + v ix0 := by
  pointwise [total, confTerm, pairTerm, sqDiff, confs, centres, extents, five, half, sqd]

/-- The class term. -/
theorem classTerm_apply (w : FVec Ideal S802816 .f32) (x y : FVec Ideal S802816x30 .f32) :
    classTerm (F := Ideal) w x y ix0
      = ∑ n, w (ix1 n) * ∑ k : Fin 20, sqd (x (ix2 n ⟨10 + k.val, by omega⟩)) (y (ix2 n ⟨10 + k.val, by omega⟩)) := by
  pointwise [classTerm, classCols, sqDiff, sqd]

/-- The no-object term. -/
theorem noObjTerm_apply (w : FVec Ideal S802816 .f32) (x y : FVec Ideal S802816x2 .f32) :
    noObjTerm (F := Ideal) w x y ix0 = ∑ n, w (ix1 n) * ∑ b : Fin 2, sqd (x (ix2 n b)) (y (ix2 n b)) := by
  pointwise [noObjTerm, sqDiff, sqd]

/-- The weights of a cell's boxes. -/
theorem weights_apply (w : FVec Ideal S802816 .f32) (r : FVec Ideal S802816x2 .f32) (n : Fin 802816) (b : Fin 2) :
    weights (F := Ideal) w r (ix2 n b) = w (ix1 n) * r (ix2 n b) := by
  pointwise [weights]

/-- The loss is the sum of the cells' shares. -/
theorem loss_apply (p : FVec Ideal S16384x1470 .f32) (t : FVec Ideal S16384x7x7x30 .f32) (i : S1x1.Idx) :
    loss (F := Ideal) p t i = ∑ n : Fin 802816, share (cellP p n) (cellT t n) := by
  unfold loss
  rw [total_apply, classTerm_apply, noObjTerm_apply, ← loss_eq]
  simp only [weights_apply, objMask_apply, noObjMask_apply, takeCols_apply, boxes_apply,
    choices_apply p t _ (best_apply p t)]
  rfl

end Cert.ReferenceIdeal.Steps

end
-- ==== Proof.Agree.lean ====
module

public import proofs.«01_k».proof.Proof.KernelValue
public import proofs.«01_k».proof.Proof.RefCells

/-! The kernel's sum, row by row and cell by cell, is the reference's sum over all cells. -/

@[expose] public section

set_option maxRecDepth 16384

noncomputable section

namespace Cert.Agree

open Cert.Cell Cert.KernelIdeal.Host
open Idealize.ShloMosaic Idealize.ShloMosaic.TcCoe

/-- The reference's predicted cell is the kernel's. -/
theorem cellP_eq (p : FVec Ideal Cert.KernelIdeal.S16384x1470 .f32) (R : Fin 16384) (k : Fin 49) :
    Cert.ReferenceIdeal.Steps.cellP p ⟨R.val * 49 + k.val, by omega⟩ = predCell p R k := by
  funext e
  have h1 : (R.val * 49 + k.val) / 49 = R.val := by omega
  have h2 : (R.val * 49 + k.val) % 49 = k.val := by omega
  unfold predCell
  pointwise [Cert.ReferenceIdeal.Steps.cellP, Cert.ReferenceIdeal.Steps.rowsP, Cert.ReferenceIdeal.Steps.rows, Cert.ReferenceIdeal.Steps.gridP]
  try simp only [h1, h2]

/-- The reference's target cell is the kernel's. -/
theorem cellT_eq (t : FVec Ideal Cert.KernelIdeal.S16384x7x7x30 .f32) (R : Fin 16384) (k : Fin 49) :
    Cert.ReferenceIdeal.Steps.cellT t ⟨R.val * 49 + k.val, by omega⟩ = targetCell t R k := by
  funext e
  have h1 : (R.val * 49 + k.val) / 49 = R.val := by omega
  have h2 : (R.val * 49 + k.val) % 49 = k.val := by omega
  unfold targetCell
  pointwise [Cert.ReferenceIdeal.Steps.cellT, Cert.ReferenceIdeal.Steps.rowsT, Cert.ReferenceIdeal.Steps.rows, Cert.ReferenceIdeal.Steps.grid]
  try simp only [h1, h2]

/-- The rows' losses add up to the reference's loss. -/
theorem rows_eq_loss (p : FVec Ideal Cert.KernelIdeal.S16384x1470 .f32) (t : FVec Ideal Cert.KernelIdeal.S16384x7x7x30 .f32)
    (i : Cert.KernelIdeal.S1x1.Idx) :
    Cert.ReferenceIdeal.Steps.loss (F := Ideal) p t i = ∑ R : Fin 16384, rowLoss p t R := by
  rw [Cert.ReferenceIdeal.Steps.loss_apply, Fin.sum_univ_tiles 16384 49 rfl]
  refine Finset.sum_congr rfl fun R _ => Finset.sum_congr rfl fun k _ => ?_
  rw [cellP_eq, cellT_eq]

end Cert.Agree

end
-- ==== Proof.lean ====
/- The claims about the detection loss: each program ends without fault, its arguments unchanged and its counters at
   zero; the idealized kernel is the kernel's own text; and over the extended reals the kernel and the reference end
   with the same loss. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Agree
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem

/-- The kernel ends without fault, its arguments unchanged and its counters at zero. -/
theorem frame_kernel : Cert.quiescent_Kernel := fun m ρ _ => Cert.Kernel.Gen.frame m ρ

/-- The idealized kernel ends without fault, its arguments unchanged and its counters at zero. -/
theorem frame_ideal : Cert.quiescent_KernelIdeal := fun m ρ _ => Cert.KernelIdeal.Gen.frame m ρ

/-- The reference ends without fault, its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Steps.run (F := Ideal) m ρ)

/-- Over the extended reals the kernel and the reference end with the same loss. -/
theorem same_loss : Cert.algebraic_KernelIdeal_ReferenceIdeal := by
  intro m ρ m' ρ' _ hagree
  refine ⟨fun c => Cert.KernelIdeal.Value.G4 m c, Cert.KernelIdeal.Value.run (F := Ideal) m ρ, ?_⟩
  refine (θ_run Cert.ReferenceIdeal.defs _ _).mono (fun _ h c => ⟨(h c).1.trans ?_, (h c).2⟩)
    (Cert.ReferenceIdeal.Steps.run (F := Ideal) m' ρ')
  rw [(hagree c).1, (hagree c).2]
  funext i
  exact (Cert.Agree.rows_eq_loss _ _ i).trans (Cert.KernelIdeal.Host.result_apply m c i).symm

/-- All five claims. -/
theorem claim : Cert.Claim := ⟨Cert.Kernel.Gen.facts, Cert.KernelIdeal.Gen.facts, Cert.ReferenceIdeal.Gen.facts,
  frame_kernel, frame_ideal, frame_reference, trivial, same_loss⟩

end Cert.Proof

end
